-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v61_0)) (v1 : (c : Dev Cert.Kernel2Ideal.nD) → Buf (Elt Ideal) ((c.tc : Thread Cert.Kernel2Ideal.nD Cert.Kernel2Ideal.τ).loc Cert.Kernel2Ideal.main_v61_1)) (v2 : (c : Dev Cert.Kernel2Ideal.nD) → Buf (Elt Ideal) ((c.tc : Thread Cert.Kernel2Ideal.nD Cert.Kernel2Ideal.τ).loc Cert.Kernel2Ideal.main_v61_2)) (v3 : (c : Dev Cert.Kernel2Ideal.nD) → Buf (Elt Ideal) ((c.tc : Thread Cert.Kernel2Ideal.nD Cert.Kernel2Ideal.τ).loc Cert.Kernel2Ideal.main_v61_3)) (v4 : (c : Dev Cert.Kernel2Ideal.nD) → Buf (Elt Ideal) ((c.tc : Thread Cert.Kernel2Ideal.nD Cert.Kernel2Ideal.τ).loc Cert.Kernel2Ideal.main_v61_4)) (v5 : (c : Dev Cert.Kernel2Ideal.nD) → Buf (Elt Ideal) ((c.tc : Thread Cert.Kernel2Ideal.nD Cert.Kernel2Ideal.τ).loc Cert.Kernel2Ideal.main_v61_5)) (v6 : (c : Dev Cert.Kernel2Ideal.nD) → Buf (Elt Ideal) ((c.tc : Thread Cert.Kernel2Ideal.nD Cert.Kernel2Ideal.τ).loc Cert.Kernel2Ideal.main_v61_6)) (v7 : (c : Dev Cert.Kernel2Ideal.nD) → Buf (Elt Ideal) ((c.tc : Thread Cert.Kernel2Ideal.nD Cert.Kernel2Ideal.τ).loc Cert.Kernel2Ideal.main_v61_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v61_0) = v0 c
          ∧ r.2.mem ((c.tc : Thread Cert.Kernel2Ideal.nD Cert.Kernel2Ideal.τ).loc Cert.Kernel2Ideal.main_v61_1) = v1 c
          ∧ r.2.mem ((c.tc : Thread Cert.Kernel2Ideal.nD Cert.Kernel2Ideal.τ).loc Cert.Kernel2Ideal.main_v61_2) = v2 c
          ∧ r.2.mem ((c.tc : Thread Cert.Kernel2Ideal.nD Cert.Kernel2Ideal.τ).loc Cert.Kernel2Ideal.main_v61_3) = v3 c
          ∧ r.2.mem ((c.tc : Thread Cert.Kernel2Ideal.nD Cert.Kernel2Ideal.τ).loc Cert.Kernel2Ideal.main_v61_4) = v4 c
          ∧ r.2.mem ((c.tc : Thread Cert.Kernel2Ideal.nD Cert.Kernel2Ideal.τ).loc Cert.Kernel2Ideal.main_v61_5) = v5 c
          ∧ r.2.mem ((c.tc : Thread Cert.Kernel2Ideal.nD Cert.Kernel2Ideal.τ).loc Cert.Kernel2Ideal.main_v61_6) = v6 c
          ∧ r.2.mem ((c.tc : Thread Cert.Kernel2Ideal.nD Cert.Kernel2Ideal.τ).loc Cert.Kernel2Ideal.main_v61_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v148) = v0 c
          ∧ r.2.mem ((c.tc : Thread Cert.Reference2Ideal.nD Cert.Reference2Ideal.τ).loc Cert.Reference2Ideal.main_v149) = v1 c
          ∧ r.2.mem ((c.tc : Thread Cert.Reference2Ideal.nD Cert.Reference2Ideal.τ).loc Cert.Reference2Ideal.main_v150) = v2 c
          ∧ r.2.mem ((c.tc : Thread Cert.Reference2Ideal.nD Cert.Reference2Ideal.τ).loc Cert.Reference2Ideal.main_v151) = v3 c
          ∧ r.2.mem ((c.tc : Thread Cert.Reference2Ideal.nD Cert.Reference2Ideal.τ).loc Cert.Reference2Ideal.main_v152) = v4 c
          ∧ r.2.mem ((c.tc : Thread Cert.Reference2Ideal.nD Cert.Reference2Ideal.τ).loc Cert.Reference2Ideal.main_v153) = v5 c
          ∧ r.2.mem ((c.tc : Thread Cert.Reference2Ideal.nD Cert.Reference2Ideal.τ).loc Cert.Reference2Ideal.main_v154) = v6 c
          ∧ r.2.mem ((c.tc : Thread Cert.Reference2Ideal.nD Cert.Reference2Ideal.τ).loc Cert.Reference2Ideal.main_v155) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v246) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qkv : Cert.Pre_finite_qkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_qkv.lean ====
abbrev S8x4096x512 : Shape := ⟨3, ![8, 4096, 512]⟩
abbrev S512 : Shape := ⟨1, ![512]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel

variable [Facts]

def fn {F : FTy → Type} [FloatOps F] (main_arg0 : FVec F S8x4096x512 .bf16) (main_arg1 : FVec F S8x4096x512 .bf16) (main_arg2 : FVec F S8x4096x512 .bf16) (main_arg3 : FVec F S8x4096x512 .bf16) (main_arg4 : FVec F S512 .f32) : IVec S_ 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_c : IVec S_ 1 := constantI S_ 1 1#1
  let main_v4 : IVec S_ 1 := (fun x v => Host.reduce IntOp.andi x v reducesTo_S8x4096x512_S_d0_1_2 h_S_) main_v3 main_c
  let main_v5 : FVec F S8x4096x512 .f32 := (extf .f32 · bitsLt_bf16_f32) main_arg1
  let main_v6 : FVec F S8x4096x512 .f32 := Host.absf main_v5
  let main_cst_0 : FVec F S_ .f32 := constant S_ .f32 0x7F800000#32
  let main_v7 : FVec F S8x4096x512 .f32 := broadcastInDim S8x4096x512 ![] bcast_S_S8x4096x512 main_cst_0
  let main_v8 : IVec S8x4096x512 1 := cmpf .olt main_v6 main_v7
  let main_c_1 : IVec S_ 1 := constantI S_ 1 1#1
  let main_v9 : IVec S_ 1 := (fun x v => Host.reduce IntOp.andi x v reducesTo_S8x4096x512_S_d0_1_2 h_S_) main_v8 main_c_1
  let main_v10 : IVec S_ 1 := andi main_v4 main_v9
  let main_v11 : FVec F S8x4096x512 .f32 := (extf .f32 · bitsLt_bf16_f32) main_arg2
  let main_v12 : FVec F S8x4096x512 .f32 := Host.absf main_v11
  let main_cst_2 : FVec F S_ .f32 := constant S_ .f32 0x7F800000#32
  let main_v13 : FVec F S8x4096x512 .f32 := broadcastInDim S8x4096x512 ![] bcast_S_S8x4096x512 main_cst_2
  let main_v14 : IVec S8x4096x512 1 := cmpf .olt main_v12 main_v13
  let main_c_3 : IVec S_ 1 := constantI S_ 1 1#1
  let main_v15 : IVec S_ 1 := (fun x v => Host.reduce IntOp.andi x v reducesTo_S8x4096x512_S_d0_1_2 h_S_) main_v14 main_c_3
  let main_v16 : IVec S_ 1 := andi main_v10 main_v15
  main_v16
-- ==== Kernel.lean ====
abbrev S8x4096x512 : Shape := ⟨3, ![8, 4096, 512]⟩
abbrev S512 : Shape := ⟨1, ![512]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S8 : Shape := ⟨1, ![8]⟩
abbrev S1x8 : Shape := ⟨2, ![1, 8]⟩
abbrev S256x8 : Shape := ⟨2, ![256, 8]⟩
abbrev S256x8x64 : Shape := ⟨3, ![256, 8, 64]⟩
abbrev S256x512 : Shape := ⟨2, ![256, 512]⟩
abbrev S1x8x64 : Shape := ⟨3, ![1, 8, 64]⟩
abbrev S1x512 : Shape := ⟨2, ![1, 512]⟩
abbrev S8x1x1 : Shape := ⟨3, ![8, 1, 1]⟩
abbrev S1x256x256 : Shape := ⟨3, ![1, 256, 256]⟩
abbrev S8x256x256 : Shape := ⟨3, ![8, 256, 256]⟩
abbrev S1x256x512 : Shape := ⟨3, ![1, 256, 512]⟩
abbrev S2x256x256 : Shape := ⟨3, ![2, 256, 256]⟩

abbrev nBuf : Space → Nat
  | .hbm => 101
  | .vmem => 18
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S512, .f32⟩
  | .hbm, ⟨5, _⟩ => ⟨S256, .i32⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256x1, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S_, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x256, .bf16⟩
  | .hbm, ⟨20, _⟩ => ⟨S256, .i32⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256x1, .i32⟩
  | .hbm, ⟨25, _⟩ => ⟨S1x256, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S_, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S256, .f32⟩
  | .hbm, ⟨48, _⟩ => ⟨S1x8, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256x1, .f32⟩
  | .hbm, ⟨53, _⟩ => ⟨S256x8, .f32⟩
  | .hbm, ⟨54, _⟩ => ⟨S256x8, .f32⟩
  | .hbm, ⟨55, _⟩ => ⟨S256x8, .f32⟩
  | .hbm, ⟨56, _⟩ => ⟨S256x8, .f32⟩
  | .hbm, ⟨57, _⟩ => ⟨S256x8x64, .f32⟩
  | .hbm, ⟨58, _⟩ => ⟨S256x512, .f32⟩
  | .hbm, ⟨59, _⟩ => ⟨S1x8, .f32⟩
  | .hbm, ⟨60, _⟩ => ⟨S_, .f32⟩
  | .hbm, ⟨61, _⟩ => ⟨S256, .f32⟩
  | .hbm, ⟨62, _⟩ => ⟨S256, .f32⟩
  | .hbm, ⟨63, _⟩ => ⟨S256x1, .f32⟩
  | .hbm, ⟨64, _⟩ => ⟨S256x8, .f32⟩
  | .hbm, ⟨65, _⟩ => ⟨S256x8, .f32⟩
  | .hbm, ⟨66, _⟩ => ⟨S256x8, .f32⟩
  | .hbm, ⟨67, _⟩ => ⟨S256x8, .f32⟩
  | .hbm, ⟨68, _⟩ => ⟨S256x8x64, .f32⟩
  | .hbm, ⟨69, _⟩ => ⟨S256x512, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S8, .f32⟩
  | .hbm, ⟨74, _⟩ => ⟨S1x8, .f32⟩
  | .hbm, ⟨75, _⟩ => ⟨S1x8x64, .f32⟩
  | .hbm, ⟨76, _⟩ => ⟨S1x512, .f32⟩
  | .hbm, ⟨77, _⟩ => ⟨S256x1, .f32⟩
  | .hbm, ⟨78, _⟩ => ⟨S1x256, .f32⟩
  | .hbm, ⟨79, _⟩ => ⟨S256x256, .f32⟩
  | .hbm, ⟨80, _⟩ => ⟨S256x256, .f32⟩
  | .hbm, ⟨81, _⟩ => ⟨S256x256, .f32⟩
  | .hbm, ⟨82, _⟩ => ⟨S_, .f32⟩
  | .hbm, ⟨83, _⟩ => ⟨S256x256, .f32⟩
  | .hbm, ⟨84, _⟩ => ⟨S256x256, .i1⟩
  | .hbm, ⟨85, _⟩ => ⟨S8x1x1, .f32⟩
  | .hbm, ⟨86, _⟩ => ⟨S_, .f32⟩
  | .hbm, ⟨87, _⟩ => ⟨S256x256, .f32⟩
  | .hbm, ⟨88, _⟩ => ⟨S256x256, .f32⟩
  | .hbm, ⟨89, _⟩ => ⟨S1x256x256, .f32⟩
  | .hbm, ⟨90, _⟩ => ⟨S8x256x256, .f32⟩
  | .hbm, ⟨91, _⟩ => ⟨S8x256x256, .f32⟩
  | .hbm, ⟨92, _⟩ => ⟨S8x256x256, .f32⟩
  | .hbm, ⟨93, _⟩ => ⟨S8x256x256, .f32⟩
  | .hbm, ⟨94, _⟩ => ⟨S_, .f32⟩
  | .hbm, ⟨95, _⟩ => ⟨S_, .f32⟩
  | .hbm, ⟨96, _⟩ => ⟨S8x256x256, .i1⟩
  | .hbm, ⟨97, _⟩ => ⟨S8x256x256, .f32⟩
  | .hbm, ⟨98, _⟩ => ⟨S8x256x256, .f32⟩
  | .hbm, ⟨99, _⟩ => ⟨S1x512, .f32⟩
  | .hbm, ⟨100, _⟩ => ⟨S8x4096x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S256x512, .f32⟩
  | .local _ .vmem, ⟨9, _⟩ => ⟨S256x512, .f32⟩
  | .local _ .vmem, ⟨10, _⟩ => ⟨S8x256x256, .f32⟩
  | .local _ .vmem, ⟨11, _⟩ => ⟨S1x512, .f32⟩
  | .local _ .vmem, ⟨12, _⟩ => ⟨S256x256, .f32⟩
  | .local _ .vmem, ⟨13, _⟩ => ⟨S256x256, .bf16⟩
  | .local _ .vmem, ⟨14, _⟩ => ⟨S1x512, .f32⟩
  | .local _ .vmem, ⟨15, _⟩ => ⟨S1x256x512, .bf16⟩
  | .local _ .vmem, ⟨16, _⟩ => ⟨S1x256x512, .bf16⟩
  | .local _ .vmem, ⟨17, _⟩ => ⟨S2x256x256, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8x4096x512 : Shape := ⟨3, ![8, 4096, 512]⟩
abbrev S512 : Shape := ⟨1, ![512]⟩
abbrev S8x4096x8x64 : Shape := ⟨4, ![8, 4096, 8, 64]⟩
abbrev S8x8x4096x64 : Shape := ⟨4, ![8, 8, 4096, 64]⟩
abbrev S8 : Shape := ⟨1, ![8]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x1x1 : Shape := ⟨3, ![8, 1, 1]⟩
abbrev S1x4096x4096 : Shape := ⟨3, ![1, 4096, 4096]⟩
abbrev S8x4096x4096 : Shape := ⟨3, ![8, 4096, 4096]⟩
abbrev S8x8x4096x4096 : Shape := ⟨4, ![8, 8, 4096, 4096]⟩
abbrev S1x8x4096x4096 : Shape := ⟨4, ![1, 8, 4096, 4096]⟩
abbrev S8x64 : Shape := ⟨2, ![8, 64]⟩
abbrev S8x4096x8 : Shape := ⟨3, ![8, 4096, 8]⟩
abbrev S8x4096x8x1 : Shape := ⟨4, ![8, 4096, 8, 1]⟩
abbrev S1x1x8x64 : Shape := ⟨4, ![1, 1, 8, 64]⟩

abbrev nBuf : Space → Nat
  | .hbm => 78
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S512, .f32⟩
  | .hbm, ⟨5, _⟩ => ⟨S8x4096x512, .f32⟩
  | .hbm, ⟨6, _⟩ => ⟨S8x4096x8x64, .f32⟩
  | .hbm, ⟨7, _⟩ => ⟨S8x8x4096x64, .f32⟩
  | .hbm, ⟨8, _⟩ => ⟨S8x4096x512, .f32⟩
  | .hbm, ⟨9, _⟩ => ⟨S8x4096x8x64, .f32⟩
  | .hbm, ⟨10, _⟩ => ⟨S8x8x4096x64, .f32⟩
  | .hbm, ⟨11, _⟩ => ⟨S8x4096x512, .f32⟩
  | .hbm, ⟨12, _⟩ => ⟨S8x4096x8x64, .f32⟩
  | .hbm, ⟨13, _⟩ => ⟨S8x8x4096x64, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S4096, .f32⟩
  | .hbm, ⟨27, _⟩ => ⟨S4096x1, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .i1⟩
  | .hbm, ⟨35, _⟩ => ⟨S8x1x1, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S1x4096x4096, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S_, .f32⟩
  | .hbm, ⟨46, _⟩ => ⟨S8x4096x4096, .i1⟩
  | .hbm, ⟨47, _⟩ => ⟨S8x4096x4096, .f32⟩
  | .hbm, ⟨48, _⟩ => ⟨S8x4096x4096, .f32⟩
  | .hbm, ⟨49, _⟩ => ⟨S8x8x4096x4096, .f32⟩
  | .hbm, ⟨50, _⟩ => ⟨S1x8x4096x4096, .f32⟩
  | .hbm, ⟨51, _⟩ => ⟨S8x8x4096x4096, .f32⟩
  | .hbm, ⟨52, _⟩ => ⟨S8x8x4096x4096, .f32⟩
  | .hbm, ⟨53, _⟩ => ⟨S8x8x4096x64, .f32⟩
  | .hbm, ⟨54, _⟩ => ⟨S8x4096x8x64, .f32⟩
  | .hbm, ⟨55, _⟩ => ⟨S8x4096x512, .f32⟩
  | .hbm, ⟨56, _⟩ => ⟨S8x4096x8x64, .f32⟩
  | .hbm, ⟨57, _⟩ => ⟨S8x64, .f32⟩
  | .hbm, ⟨58, _⟩ => ⟨S8x4096x8x64, .f32⟩
  | .hbm, ⟨59, _⟩ => ⟨S_, .f32⟩
  | .hbm, ⟨60, _⟩ => ⟨S8x4096x8, .f32⟩
  | .hbm, ⟨61, _⟩ => ⟨S8x4096x8x1, .f32⟩
  | .hbm, ⟨62, _⟩ => ⟨S_, .f32⟩
  | .hbm, ⟨63, _⟩ => ⟨S8x4096x8x1, .f32⟩
  | .hbm, ⟨64, _⟩ => ⟨S8x4096x8x1, .f32⟩
  | .hbm, ⟨65, _⟩ => ⟨S_, .f32⟩
  | .hbm, ⟨66, _⟩ => ⟨S8x4096x8x1, .f32⟩
  | .hbm, ⟨67, _⟩ => ⟨S8x4096x8x1, .f32⟩
  | .hbm, ⟨68, _⟩ => ⟨S8x4096x8x1, .f32⟩
  | .hbm, ⟨69, _⟩ => ⟨S8x4096x8x64, .f32⟩
  | .hbm, ⟨70, _⟩ => ⟨S8x4096x8x64, .f32⟩
  | .hbm, ⟨71, _⟩ => ⟨S1x1x8x64, .f32⟩
  | .hbm, ⟨72, _⟩ => ⟨S8x4096x8x64, .f32⟩
  | .hbm, ⟨73, _⟩ => ⟨S8x4096x8x64, .f32⟩
  | .hbm, ⟨74, _⟩ => ⟨S8x4096x512, .f32⟩
  | .hbm, ⟨75, _⟩ => ⟨S8x4096x512, .f32⟩
  | .hbm, ⟨76, _⟩ => ⟨S8x4096x512, .f32⟩
  | .hbm, ⟨77, _⟩ => ⟨S8x4096x512, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x3328 : Shape := ⟨2, ![1024, 3328]⟩
abbrev S64 : Shape := ⟨1, ![64]⟩
abbrev S512 : Shape := ⟨1, ![512]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S31 : Shape := ⟨1, ![31]⟩
abbrev S1 : Shape := ⟨1, ![1]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x32x2 : Shape := ⟨3, ![4096, 32, 2]⟩
abbrev S4096x64 : Shape := ⟨2, ![4096, 64]⟩
abbrev S1x4096x1x64 : Shape := ⟨4, ![1, 4096, 1, 64]⟩
abbrev S1x4096x8x64 : Shape := ⟨4, ![1, 4096, 8, 64]⟩
abbrev S4096x512 : Shape := ⟨2, ![4096, 512]⟩
abbrev S1x64 : Shape := ⟨2, ![1, 64]⟩
abbrev S3328 : Shape := ⟨1, ![3328]⟩
abbrev S1x3328 : Shape := ⟨2, ![1, 3328]⟩
abbrev S1x1024 : Shape := ⟨2, ![1, 1024]⟩
abbrev S4x64 : Shape := ⟨2, ![4, 64]⟩
abbrev S1x512 : Shape := ⟨2, ![1, 512]⟩
abbrev S8x4096x256 : Shape := ⟨3, ![8, 4096, 256]⟩
abbrev S8x4096x512 : Shape := ⟨3, ![8, 4096, 512]⟩
abbrev S1x512x1024 : Shape := ⟨3, ![1, 512, 1024]⟩
abbrev S512x512 : Shape := ⟨2, ![512, 512]⟩
abbrev S1x512x256 : Shape := ⟨3, ![1, 512, 256]⟩
abbrev S1x512x512 : Shape := ⟨3, ![1, 512, 512]⟩
abbrev S512x1024 : Shape := ⟨2, ![512, 1024]⟩
abbrev S512x1 : Shape := ⟨2, ![512, 1]⟩
abbrev S1024x256 : Shape := ⟨2, ![1024, 256]⟩
abbrev S512x256 : Shape := ⟨2, ![512, 256]⟩
abbrev S1024x512 : Shape := ⟨2, ![1024, 512]⟩

abbrev nBuf : Space → Nat
  | .hbm => 133
  | .vmem => 28
  | .smem => 0
  | _ => 0

abbrev hbmTy0_0 (i : Nat) : BufTy := match i % 128 with
  | 0 => ⟨S8x4096x1024, .f32⟩
  | 1 => ⟨S1024, .f32⟩
  | 2 => ⟨S1024x3328, .f32⟩
  | 3 => ⟨S64, .f32⟩
  | 4 => ⟨S64, .f32⟩
  | 5 => ⟨S512, .f32⟩
  | 6 => ⟨S256, .i32⟩
  | 7 => ⟨S_, .i32⟩
  | 8 => ⟨S256, .i32⟩
  | 9 => ⟨S256, .i32⟩
  | 10 => ⟨S256x1, .i32⟩
  | 11 => ⟨S1x256, .i32⟩
  | 12 => ⟨S256x256, .i32⟩
  | 13 => ⟨S256x256, .i32⟩
  | 14 => ⟨S256x256, .i1⟩
  | 15 => ⟨S_, .f32⟩
  | 16 => ⟨S_, .f32⟩
  | 17 => ⟨S256x256, .f32⟩
  | 18 => ⟨S256x256, .f32⟩
  | 19 => ⟨S256x256, .f32⟩
  | 20 => ⟨S256x256, .bf16⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S31, .f32⟩
  | 29 => ⟨S_, .f32⟩
  | 30 => ⟨S31, .f32⟩
  | 31 => ⟨S31, .f32⟩
  | 32 => ⟨S1, .f32⟩
  | 33 => ⟨S_, .f32⟩
  | 34 => ⟨S31, .f32⟩
  | 35 => ⟨S31, .f32⟩
  | 36 => ⟨S31, .f32⟩
  | 37 => ⟨S31, .f32⟩
  | 38 => ⟨S1, .f32⟩
  | 39 => ⟨S31, .f32⟩
  | 40 => ⟨S31, .f32⟩
  | 41 => ⟨S31, .f32⟩
  | 42 => ⟨S1, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S4096, .i32⟩
  | 51 => ⟨S4096, .f32⟩
  | 52 => ⟨S4096x1, .f32⟩
  | 53 => ⟨S1x32, .f32⟩
  | 54 => ⟨S4096x32, .f32⟩
  | 55 => ⟨S4096x32, .f32⟩
  | 56 => ⟨S4096x32, .f32⟩
  | 57 => ⟨S4096x32, .f32⟩
  | 58 => ⟨S4096x32x2, .f32⟩
  | 59 => ⟨S4096x64, .f32⟩
  | 60 => ⟨S4096x32, .f32⟩
  | 61 => ⟨S4096x32x2, .f32⟩
  | 62 => ⟨S4096x64, .f32⟩
  | 63 => ⟨S64, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S64, .i32⟩
  | 71 => ⟨S64, .i32⟩
  | 72 => ⟨S_, .i32⟩
  | 73 => ⟨S64, .i32⟩
  | 74 => ⟨S64, .i1⟩
  | 75 => ⟨S_, .i32⟩
  | 76 => ⟨S64, .i32⟩
  | 77 => ⟨S64, .i1⟩
  | 78 => ⟨S_, .i32⟩
  | 79 => ⟨S_, .i1⟩
  | 80 => ⟨S64, .i1⟩
  | 81 => ⟨S64, .i1⟩
  | 82 => ⟨S64, .i1⟩
  | 83 => ⟨S64, .i32⟩
  | 84 => ⟨S64, .i32⟩
  | 85 => ⟨S64, .i32⟩
  | 86 => ⟨S_, .i32⟩
  | 87 => ⟨S64, .i32⟩
  | 88 => ⟨S64, .i1⟩
  | 89 => ⟨S_, .f32⟩
  | 90 => ⟨S_, .f32⟩
  | 91 => ⟨S64, .f32⟩
  | 92 => ⟨S64, .f32⟩
  | 93 => ⟨S64, .f32⟩
  | 94 => ⟨S64, .f32⟩
  | 95 => ⟨S1x4096x1x64, .f32⟩
  | 96 => ⟨S1x4096x8x64, .f32⟩
  | 97 => ⟨S4096x512, .f32⟩
  | 98 => ⟨S1x64, .f32⟩
  | 99 => ⟨S4096x64, .f32⟩
  | 100 => ⟨S4096x64, .f32⟩
  | 101 => ⟨S1x4096x1x64, .f32⟩
  | 102 => ⟨S1x4096x8x64, .f32⟩
  | 103 => ⟨S4096x512, .f32⟩
  | 104 => ⟨S_, .f32⟩
  | 105 => ⟨S3328, .f32⟩
  | 106 => ⟨S_, .i32⟩
  | 107 => ⟨S1, .i32⟩
  | 108 => ⟨S_, .f32⟩
  | 109 => ⟨S512, .f32⟩
  | 110 => ⟨S3328, .f32⟩
  | 111 => ⟨S1x3328, .f32⟩
  | 112 => ⟨S1024x3328, .f32⟩
  | 113 => ⟨S1024x3328, .f32⟩
  | 114 => ⟨S1024x3328, .bf16⟩
  | 115 => ⟨S1x1024, .f32⟩
  | 116 => ⟨S1x64, .f32⟩
  | 117 => ⟨S4x64, .f32⟩
  | 118 => ⟨S256, .f32⟩
  | 119 => ⟨S1x256, .f32⟩
  | 120 => ⟨S1x64, .f32⟩
  | 121 => ⟨S4x64, .f32⟩
  | 122 => ⟨S256, .f32⟩
  | 123 => ⟨S1x256, .f32⟩
  | 124 => ⟨S1x512, .f32⟩
  | 125 => ⟨S8x4096x256, .bf16⟩
  | 126 => ⟨S8x4096x256, .bf16⟩
  | 127 => ⟨S8x4096x256, .bf16⟩
  | _ => ⟨S8x4096x1024, .f32⟩

abbrev hbmTy0_1 (i : Nat) : BufTy := match i % 128 with
  | 0 => ⟨S8x4096x512, .bf16⟩
  | 1 => ⟨S8x4096x512, .bf16⟩
  | 2 => ⟨S8x4096x512, .bf16⟩
  | 3 => ⟨S8x4096x512, .bf16⟩
  | 4 => ⟨S8x4096x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3328, .bf16⟩
  | .local _ .vmem, ⟨4, _⟩ => ⟨S256x256, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x256, .f32⟩
  | .local _ .vmem, ⟨10, _⟩ => ⟨S1x256, .f32⟩
  | .local _ .vmem, ⟨11, _⟩ => ⟨S1x512, .f32⟩
  | .local _ .vmem, ⟨12, _⟩ => ⟨S1x512x256, .bf16⟩
  | .local _ .vmem, ⟨13, _⟩ => ⟨S1x512x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x256, .bf16⟩
  | .local _ .vmem, ⟨27, _⟩ => ⟨S1x512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_cst : Ref sig .tc := ⟨.hbm, 26, rfl⟩
abbrev main_call1_v3 : Ref sig .tc := ⟨.hbm, 27, rfl⟩
abbrev main_call1_v4 : Ref sig .tc := ⟨.hbm, 28, rfl⟩
abbrev main_call1_cst_0 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_cst_1 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_call1_v15 : Ref sig .tc := ⟨.hbm, 41, rfl⟩
abbrev main_call1_v16 : Ref sig .tc := ⟨.hbm, 42, rfl⟩
abbrev main_v10 : Ref sig .tc := ⟨.hbm, 43, rfl⟩
abbrev main_cst_3 : Ref sig .tc := ⟨.hbm, 44, rfl⟩
abbrev main_v11 : Ref sig .tc := ⟨.hbm, 45, rfl⟩
abbrev main_v12 : Ref sig .tc := ⟨.hbm, 46, rfl⟩
abbrev main_cst_4 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c_5 : Ref sig .tc := ⟨.hbm, 64, rfl⟩
abbrev main_call2_v0 : Ref sig .tc := ⟨.hbm, 65, rfl⟩
abbrev main_call2_c : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_1 : Ref sig .tc := ⟨.hbm, 72, rfl⟩
abbrev main_call2_v5 : Ref sig .tc := ⟨.hbm, 73, rfl⟩
abbrev main_call2_v6 : Ref sig .tc := ⟨.hbm, 74, rfl⟩
abbrev main_call2_c_2 : Ref sig .tc := ⟨.hbm, 75, rfl⟩
abbrev main_call2_v7 : Ref sig .tc := ⟨.hbm, 76, rfl⟩
abbrev main_call2_v8 : Ref sig .tc := ⟨.hbm, 77, rfl⟩
abbrev main_call2_c_3 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_v29 : Ref sig .tc := ⟨.hbm, 85, rfl⟩
abbrev main_c_6 : Ref sig .tc := ⟨.hbm, 86, rfl⟩
abbrev main_v30 : Ref sig .tc := ⟨.hbm, 87, rfl⟩
abbrev main_v31 : Ref sig .tc := ⟨.hbm, 88, rfl⟩
abbrev main_cst_7 : Ref sig .tc := ⟨.hbm, 89, rfl⟩
abbrev main_cst_8 : Ref sig .tc := ⟨.hbm, 90, rfl⟩
abbrev main_call3_v0 : Ref sig .tc := ⟨.hbm, 91, rfl⟩
abbrev main_call3_v1 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_cst_9 : Ref sig .tc := ⟨.hbm, 104, rfl⟩
abbrev main_v43 : Ref sig .tc := ⟨.hbm, 105, rfl⟩
abbrev main_c_10 : Ref sig .tc := ⟨.hbm, 106, rfl⟩
abbrev main_v44 : Ref sig .tc := ⟨.hbm, 107, rfl⟩
abbrev main_cst_11 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61_0 : Ref sig .tc := ⟨.hbm, 125, rfl⟩
abbrev main_v61_1 : Ref sig .tc := ⟨.hbm, 126, rfl⟩
abbrev main_v61_2 : Ref sig .tc := ⟨.hbm, 127, rfl⟩
abbrev main_v61_3 : Ref sig .tc := ⟨.hbm, 128, rfl⟩
abbrev main_v61_4 : Ref sig .tc := ⟨.hbm, 129, rfl⟩
abbrev main_v61_5 : Ref sig .tc := ⟨.hbm, 130, rfl⟩
abbrev main_v61_6 : Ref sig .tc := ⟨.hbm, 131, rfl⟩
abbrev main_v61_7 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S8x4096x1024 : Shape := ⟨3, ![8, 4096, 1024]⟩
abbrev S1024 : Shape := ⟨1, ![1024]⟩
abbrev S1024x3328 : Shape := ⟨2, ![1024, 3328]⟩
abbrev S64 : Shape := ⟨1, ![64]⟩
abbrev S512 : Shape := ⟨1, ![512]⟩
abbrev S4096 : Shape := ⟨1, ![4096]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3328 : Shape := ⟨3, ![8, 4096, 3328]⟩
abbrev S8x4096x256 : Shape := ⟨3, ![8, 4096, 256]⟩
abbrev S8x4096x512 : Shape := ⟨3, ![8, 4096, 512]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S8x4096x8x64 : Shape := ⟨4, ![8, 4096, 8, 64]⟩
abbrev S8x8x4096x64 : Shape := ⟨4, ![8, 8, 4096, 64]⟩
abbrev S31 : Shape := ⟨1, ![31]⟩
abbrev S1 : Shape := ⟨1, ![1]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S8x8x4096x32 : Shape := ⟨4, ![8, 8, 4096, 32]⟩
abbrev S1x1x4096x32 : Shape := ⟨4, ![1, 1, 4096, 32]⟩
abbrev S8x8x4096x32x1 : Shape := ⟨5, ![8, 8, 4096, 32, 1]⟩
abbrev S8x8x4096x32x2 : Shape := ⟨5, ![8, 8, 4096, 32, 2]⟩
abbrev S256 : Shape := ⟨1, ![256]⟩
abbrev S1x1x256 : Shape := ⟨3, ![1, 1, 256]⟩

abbrev nBuf : Space → Nat
  | .hbm => 231
  | .vmem => 0
  | .smem => 0
  | _ => 0

abbrev hbmTy0_0 (i : Nat) : BufTy := match i % 128 with
  | 0 => ⟨S8x4096x1024, .f32⟩
  | 1 => ⟨S1024, .f32⟩
  | 2 => ⟨S1024x3328, .f32⟩
  | 3 => ⟨S64, .f32⟩
  | 4 => ⟨S64, .f32⟩
  | 5 => ⟨S512, .f32⟩
  | 6 => ⟨S4096, .i32⟩
  | 7 => ⟨S8x4096x1024, .f32⟩
  | 8 => ⟨S_, .f32⟩
  | 9 => ⟨S8x4096, .f32⟩
  | 10 => ⟨S8x4096x1, .f32⟩
  | 11 => ⟨S_, .f32⟩
  | 12 => ⟨S8x4096x1, .f32⟩
  | 13 => ⟨S8x4096x1, .f32⟩
  | 14 => ⟨S_, .f32⟩
  | 15 => ⟨S8x4096x1, .f32⟩
  | 16 => ⟨S8x4096x1, .f32⟩
  | 17 => ⟨S8x4096x1, .f32⟩
  | 18 => ⟨S8x4096x1024, .f32⟩
  | 19 => ⟨S8x4096x1024, .f32⟩
  | 20 => ⟨S1x1x1024, .f32⟩
  | 21 => ⟨S8x4096x1024, .f32⟩
  | 22 => ⟨S8x4096x1024, .f32⟩
  | 23 => ⟨S8x4096x3328, .f32⟩
  | 24 => ⟨S8x4096x256, .f32⟩
  | 25 => ⟨S8x4096x256, .f32⟩
  | 26 => ⟨S8x4096x256, .f32⟩
  | 27 => ⟨S8x4096x512, .f32⟩
  | 28 => ⟨S8x4096x512, .f32⟩
  | 29 => ⟨S8x4096x512, .f32⟩
  | 30 => ⟨S8x4096x512, .f32⟩
  | 31 => ⟨S8x4096x256, .f32⟩
  | 32 => ⟨S8x4096x256, .f32⟩
  | 33 => ⟨S8x4096x4x64, .f32⟩
  | 34 => ⟨S8x4096x4x64, .f32⟩
  | 35 => ⟨S_, .f32⟩
  | 36 => ⟨S8x4096x4, .f32⟩
  | 37 => ⟨S8x4096x4x1, .f32⟩
  | 38 => ⟨S_, .f32⟩
  | 39 => ⟨S8x4096x4x1, .f32⟩
  | 40 => ⟨S8x4096x4x1, .f32⟩
  | 41 => ⟨S_, .f32⟩
  | 42 => ⟨S8x4096x4x1, .f32⟩
  | 43 => ⟨S8x4096x4x1, .f32⟩
  | 44 => ⟨S8x4096x4x1, .f32⟩
  | 45 => ⟨S8x4096x4x64, .f32⟩
  | 46 => ⟨S8x4096x4x64, .f32⟩
  | 47 => ⟨S1x1x1x64, .f32⟩
  | 48 => ⟨S8x4096x4x64, .f32⟩
  | 49 => ⟨S8x4096x4x64, .f32⟩
  | 50 => ⟨S8x4096x256, .f32⟩
  | 51 => ⟨S8x4096x4x64, .f32⟩
  | 52 => ⟨S8x4096x4x64, .f32⟩
  | 53 => ⟨S_, .f32⟩
  | 54 => ⟨S8x4096x4, .f32⟩
  | 55 => ⟨S8x4096x4x1, .f32⟩
  | 56 => ⟨S_, .f32⟩
  | 57 => ⟨S8x4096x4x1, .f32⟩
  | 58 => ⟨S8x4096x4x1, .f32⟩
  | 59 => ⟨S_, .f32⟩
  | 60 => ⟨S8x4096x4x1, .f32⟩
  | 61 => ⟨S8x4096x4x1, .f32⟩
  | 62 => ⟨S8x4096x4x1, .f32⟩
  | 63 => ⟨S8x4096x4x64, .f32⟩
  | 64 => ⟨S8x4096x4x64, .f32⟩
  | 65 => ⟨S1x1x1x64, .f32⟩
  | 66 => ⟨S8x4096x4x64, .f32⟩
  | 67 => ⟨S8x4096x4x64, .f32⟩
  | 68 => ⟨S8x4096x256, .f32⟩
  | 69 => ⟨S8x4096x8x64, .f32⟩
  | 70 => ⟨S8x8x4096x64, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S31, .f32⟩
  | 79 => ⟨S_, .f32⟩
  | 80 => ⟨S31, .f32⟩
  | 81 => ⟨S31, .f32⟩
  | 82 => ⟨S1, .f32⟩
  | 83 => ⟨S_, .f32⟩
  | 84 => ⟨S31, .f32⟩
  | 85 => ⟨S31, .f32⟩
  | 86 => ⟨S31, .f32⟩
  | 87 => ⟨S31, .f32⟩
  | 88 => ⟨S1, .f32⟩
  | 89 => ⟨S31, .f32⟩
  | 90 => ⟨S31, .f32⟩
  | 91 => ⟨S31, .f32⟩
  | 92 => ⟨S1, .f32⟩
  | 93 => ⟨S32, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S4096, .f32⟩
  | 101 => ⟨S4096x1, .f32⟩
  | 102 => ⟨S1x32, .f32⟩
  | 103 => ⟨S4096x32, .f32⟩
  | 104 => ⟨S4096x32, .f32⟩
  | 105 => ⟨S4096x32, .f32⟩
  | 106 => ⟨S4096x32, .f32⟩
  | 107 => ⟨S4096x32, .f32⟩
  | 108 => ⟨S8x8x4096x32, .f32⟩
  | 109 => ⟨S8x8x4096x32, .f32⟩
  | 110 => ⟨S1x1x4096x32, .f32⟩
  | 111 => ⟨S8x8x4096x32, .f32⟩
  | 112 => ⟨S8x8x4096x32, .f32⟩
  | 113 => ⟨S1x1x4096x32, .f32⟩
  | 114 => ⟨S8x8x4096x32, .f32⟩
  | 115 => ⟨S8x8x4096x32, .f32⟩
  | 116 => ⟨S8x8x4096x32, .f32⟩
  | 117 => ⟨S1x1x4096x32, .f32⟩
  | 118 => ⟨S8x8x4096x32, .f32⟩
  | 119 => ⟨S8x8x4096x32, .f32⟩
  | 120 => ⟨S1x1x4096x32, .f32⟩
  | 121 => ⟨S8x8x4096x32, .f32⟩
  | 122 => ⟨S8x8x4096x32, .f32⟩
  | 123 => ⟨S8x8x4096x32, .f32⟩
  | 124 => ⟨S8x8x4096x32x1, .f32⟩
  | 125 => ⟨S8x8x4096x32x1, .f32⟩
  | 126 => ⟨S8x8x4096x32x2, .f32⟩
  | 127 => ⟨S8x8x4096x64, .f32⟩
  | _ => ⟨S8x4096x1024, .f32⟩

abbrev hbmTy0_1 (i : Nat) : BufTy := match i % 128 with
  | 0 => ⟨S8x4096x8x64, .f32⟩
  | 1 => ⟨S8x4096x512, .f32⟩
  | 2 => ⟨S8x4096x8x64, .f32⟩
  | 3 => ⟨S8x8x4096x64, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S31, .f32⟩
  | 12 => ⟨S_, .f32⟩
  | 13 => ⟨S31, .f32⟩
  | 14 => ⟨S31, .f32⟩
  | 15 => ⟨S1, .f32⟩
  | 16 => ⟨S_, .f32⟩
  | 17 => ⟨S31, .f32⟩
  | 18 => ⟨S31, .f32⟩
  | 19 => ⟨S31, .f32⟩
  | 20 => ⟨S31, .f32⟩
  | 21 => ⟨S1, .f32⟩
  | 22 => ⟨S31, .f32⟩
  | 23 => ⟨S31, .f32⟩
  | 24 => ⟨S31, .f32⟩
  | 25 => ⟨S1, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S4096, .f32⟩
  | 34 => ⟨S4096x1, .f32⟩
  | 35 => ⟨S1x32, .f32⟩
  | 36 => ⟨S4096x32, .f32⟩
  | 37 => ⟨S4096x32, .f32⟩
  | 38 => ⟨S4096x32, .f32⟩
  | 39 => ⟨S4096x32, .f32⟩
  | 40 => ⟨S4096x32, .f32⟩
  | 41 => ⟨S8x8x4096x32, .f32⟩
  | 42 => ⟨S8x8x4096x32, .f32⟩
  | 43 => ⟨S1x1x4096x32, .f32⟩
  | 44 => ⟨S8x8x4096x32, .f32⟩
  | 45 => ⟨S8x8x4096x32, .f32⟩
  | 46 => ⟨S1x1x4096x32, .f32⟩
  | 47 => ⟨S8x8x4096x32, .f32⟩
  | 48 => ⟨S8x8x4096x32, .f32⟩
  | 49 => ⟨S8x8x4096x32, .f32⟩
  | 50 => ⟨S1x1x4096x32, .f32⟩
  | 51 => ⟨S8x8x4096x32, .f32⟩
  | 52 => ⟨S8x8x4096x32, .f32⟩
  | 53 => ⟨S1x1x4096x32, .f32⟩
  | 54 => ⟨S8x8x4096x32, .f32⟩
  | 55 => ⟨S8x8x4096x32, .f32⟩
  | 56 => ⟨S8x8x4096x32, .f32⟩
  | 57 => ⟨S8x8x4096x32x1, .f32⟩
  | 58 => ⟨S8x8x4096x32x1, .f32⟩
  | 59 => ⟨S8x8x4096x32x2, .f32⟩
  | 60 => ⟨S8x8x4096x64, .f32⟩
  | 61 => ⟨S_, .f32⟩
  | 62 => ⟨S8x8x4096x64, .f32⟩
  | 63 => ⟨S8x8x4096x64, .f32⟩
  | 64 => ⟨S8x4096x8x64, .f32⟩
  | 65 => ⟨S8x4096x512, .f32⟩
  | 66 => ⟨S8x4096x512, .f32⟩
  | 67 => ⟨S8x4096x512, .f32⟩
  | 68 => ⟨S_, .f32⟩
  | 69 => ⟨S8x4096x512, .f32⟩
  | 70 => ⟨S8x4096x512, .f32⟩
  | 71 => ⟨S_, .f32⟩
  | 72 => ⟨S8x4096x512, .f32⟩
  | 73 => ⟨S8x4096x512, .f32⟩
  | 74 => ⟨S8x4096x512, .f32⟩
  | 75 => ⟨S256, .f32⟩
  | 76 => ⟨S1x1x256, .f32⟩
  | 77 => ⟨S8x4096x256, .f32⟩
  | 78 => ⟨S8x4096x256, .f32⟩
  | 79 => ⟨S256, .f32⟩
  | 80 => ⟨S1x1x256, .f32⟩
  | 81 => ⟨S8x4096x256, .f32⟩
  | 82 => ⟨S8x4096x256, .f32⟩
  | 83 => ⟨S8x4096x256, .f32⟩
  | 84 => ⟨S8x4096x256, .f32⟩
  | 85 => ⟨S_, .f32⟩
  | 86 => ⟨S8x4096x256, .f32⟩
  | 87 => ⟨S8x4096x256, .f32⟩
  | 88 => ⟨S_, .f32⟩
  | 89 => ⟨S8x4096x256, .f32⟩
  | 90 => ⟨S8x4096x256, .f32⟩
  | 91 => ⟨S8x4096x256, .f32⟩
  | 92 => ⟨S_, .f32⟩
  | 93 => ⟨S8x4096x256, .f32⟩
  | 94 => ⟨S8x4096x256, .f32⟩
  | 95 => ⟨S8x4096x256, .bf16⟩
  | 96 => ⟨S8x4096x256, .bf16⟩
  | 97 => ⟨S8x4096x256, .bf16⟩
  | 98 => ⟨S8x4096x512, .bf16⟩
  | 99 => ⟨S8x4096x512, .bf16⟩
  | 100 => ⟨S8x4096x512, .bf16⟩
  | 101 => ⟨S8x4096x512, .bf16⟩
  | 102 => ⟨S8x4096x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_cst_9 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_cst : Ref sig .tc := ⟨.hbm, 76, rfl⟩
abbrev main_call0_v3 : Ref sig .tc := ⟨.hbm, 77, rfl⟩
abbrev main_call0_v4 : Ref sig .tc := ⟨.hbm, 78, rfl⟩
abbrev main_call0_cst_0 : Ref sig .tc := ⟨.hbm, 79, rfl⟩
abbrev main_call0_v5 : Ref sig .tc := ⟨.hbm, 80, rfl⟩
abbrev main_call0_v6 : Ref sig .tc := ⟨.hbm, 81, rfl⟩
abbrev main_call0_v7 : Ref sig .tc := ⟨.hbm, 82, rfl⟩
abbrev main_call0_cst_1 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_call0_v12 : Ref sig .tc := ⟨.hbm, 88, rfl⟩
abbrev main_call0_v13 : Ref sig .tc := ⟨.hbm, 89, rfl⟩
abbrev main_call0_v14 : Ref sig .tc := ⟨.hbm, 90, rfl⟩
abbrev main_call0_v15 : Ref sig .tc := ⟨.hbm, 91, rfl⟩
abbrev main_call0_v16 : Ref sig .tc := ⟨.hbm, 92, rfl⟩
abbrev main_v56 : Ref sig .tc := ⟨.hbm, 93, rfl⟩
abbrev main_cst_10 : Ref sig .tc := ⟨.hbm, 94, rfl⟩
abbrev main_v57 : Ref sig .tc := ⟨.hbm, 95, rfl⟩
abbrev main_v58 : Ref sig .tc := ⟨.hbm, 96, rfl⟩
abbrev main_cst_11 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_12 : Ref sig .tc := ⟨.hbm, 132, rfl⟩
abbrev main_cst_13 : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_call1_cst : Ref sig .tc := ⟨.hbm, 137, rfl⟩
abbrev main_call1_v3 : Ref sig .tc := ⟨.hbm, 138, rfl⟩
abbrev main_call1_v4 : Ref sig .tc := ⟨.hbm, 139, rfl⟩
abbrev main_call1_cst_0 : Ref sig .tc := ⟨.hbm, 140, rfl⟩
abbrev main_call1_v5 : Ref sig .tc := ⟨.hbm, 141, rfl⟩
abbrev main_call1_v6 : Ref sig .tc := ⟨.hbm, 142, rfl⟩
abbrev main_call1_v7 : Ref sig .tc := ⟨.hbm, 143, rfl⟩
abbrev main_call1_cst_1 : Ref sig .tc := ⟨.hbm, 144, rfl⟩
abbrev main_call1_v8 : Ref sig .tc := ⟨.hbm, 145, rfl⟩
abbrev main_call1_v9 : Ref sig .tc := ⟨.hbm, 146, rfl⟩
abbrev main_call1_v10 : Ref sig .tc := ⟨.hbm, 147, rfl⟩
abbrev main_call1_v11 : Ref sig .tc := ⟨.hbm, 148, rfl⟩
abbrev main_call1_v12 : Ref sig .tc := ⟨.hbm, 149, rfl⟩
abbrev main_call1_v13 : Ref sig .tc := ⟨.hbm, 150, rfl⟩
abbrev main_call1_v14 : Ref sig .tc := ⟨.hbm, 151, rfl⟩
abbrev main_call1_v15 : Ref sig .tc := ⟨.hbm, 152, rfl⟩
abbrev main_call1_v16 : Ref sig .tc := ⟨.hbm, 153, rfl⟩
abbrev main_v93 : Ref sig .tc := ⟨.hbm, 154, rfl⟩
abbrev main_cst_14 : Ref sig .tc := ⟨.hbm, 155, rfl⟩
abbrev main_v94 : Ref sig .tc := ⟨.hbm, 156, rfl⟩
abbrev main_v95 : Ref sig .tc := ⟨.hbm, 157, rfl⟩
abbrev main_cst_15 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_cst_16 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_call2_v0 : Ref sig .tc := ⟨.hbm, 194, rfl⟩
abbrev main_call2_v1 : Ref sig .tc := ⟨.hbm, 195, rfl⟩
abbrev main_call2_cst : Ref sig .tc := ⟨.hbm, 196, rfl⟩
abbrev main_call2_v2 : Ref sig .tc := ⟨.hbm, 197, rfl⟩
abbrev main_call2_v3 : Ref sig .tc := ⟨.hbm, 198, rfl⟩
abbrev main_call2_cst_0 : Ref sig .tc := ⟨.hbm, 199, rfl⟩
abbrev main_call2_v4 : Ref sig .tc := ⟨.hbm, 200, rfl⟩
abbrev main_call2_v5 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_cst_17 : Ref sig .tc := ⟨.hbm, 213, rfl⟩
abbrev main_v141 : Ref sig .tc := ⟨.hbm, 214, rfl⟩
abbrev main_v142 : Ref sig .tc := ⟨.hbm, 215, rfl⟩
abbrev main_cst_18 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_cst_19 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x256 : Shape := ⟨3, ![8, 4096, 256]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x512x256 : Shape := ⟨3, ![1, 512, 256]⟩
abbrev S1x512x512 : Shape := ⟨3, ![1, 512, 512]⟩
abbrev S512x256 : Shape := ⟨2, ![512, 256]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .bf16⟩
  | .hbm, ⟨2, _⟩ => ⟨S8x4096x512, .bf16⟩
  | .hbm, ⟨3, _⟩ => ⟨S8x4096x256, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024x1024, .bf16⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x256, .bf16⟩
  | .local _ .vmem, ⟨7, _⟩ => ⟨S1x512x256, .bf16⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x512x1024, .f32⟩
  | .local _ .vmem, ⟨13, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8x4096x1024 : Shape := ⟨3, ![8, 4096, 1024]⟩
abbrev S8x4096x256 : Shape := ⟨3, ![8, 4096, 256]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .bf16⟩
  | .hbm, ⟨2, _⟩ => ⟨S8x4096x512, .bf16⟩
  | .hbm, ⟨3, _⟩ => ⟨S8x4096x256, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S8x4096x256, .f32⟩
  | .hbm, ⟨9, _⟩ => ⟨S8x4096x512, .f32⟩
  | .hbm, ⟨10, _⟩ => ⟨S8x4096x256, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S8x4096x4096, .f32⟩
  | .hbm, ⟨31, _⟩ => ⟨S_, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x1024, .f32⟩
  | .hbm, ⟨36, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel4.lean ====
abbrev S8x4096x256 : Shape := ⟨3, ![8, 4096, 256]⟩
abbrev S31x256 : Shape := ⟨2, ![31, 256]⟩
abbrev S256 : Shape := ⟨1, ![256]⟩
abbrev S1x256 : Shape := ⟨2, ![1, 256]⟩
abbrev S1x512x256 : Shape := ⟨3, ![1, 512, 256]⟩
abbrev S544x256 : Shape := ⟨2, ![544, 256]⟩
abbrev S32x256 : Shape := ⟨2, ![32, 256]⟩
abbrev S512x256 : Shape := ⟨2, ![512, 256]⟩
abbrev S64x256 : Shape := ⟨2, ![64, 256]⟩
abbrev S64 : Shape := ⟨1, ![64]⟩
abbrev S64x1 : Shape := ⟨2, ![64, 1]⟩
abbrev S1x64x256 : Shape := ⟨3, ![1, 64, 256]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x256, .bf16⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S8x4096x256, .bf16⟩
  | .local _ .vmem, ⟨0, _⟩ => ⟨S1x512x256, .bf16⟩
  | .local _ .vmem, ⟨1, _⟩ => ⟨S1x512x256, .bf16⟩
  | .local _ .vmem, ⟨2, _⟩ => ⟨S31x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x512x256, .bf16⟩
  | .local _ .vmem, ⟨7, _⟩ => ⟨S1x512x256, .bf16⟩
  | .local _ .vmem, ⟨8, _⟩ => ⟨S544x256, .f32⟩
  | _, _ => ⟨S8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8x4096x256 : Shape := ⟨3, ![8, 4096, 256]⟩
abbrev S31x256 : Shape := ⟨2, ![31, 256]⟩
abbrev S256 : Shape := ⟨1, ![256]⟩
abbrev S_ : Shape := ⟨0, ![]⟩
abbrev S8x4126x256 : Shape := ⟨3, ![8, 4126, 256]⟩
abbrev S1x256 : Shape := ⟨2, ![1, 256]⟩
abbrev S1x1x256 : Shape := ⟨3, ![1, 1, 256]⟩
abbrev S8x4096 : Shape := ⟨2, ![8, 4096]⟩
abbrev S8x4096x1 : Shape := ⟨3, ![8, 4096, 1]⟩

abbrev nBuf : Space → Nat
  | .hbm => 268
  | .vmem => 0
  | .smem => 0
  | _ => 0

abbrev hbmTy0_0 (i : Nat) : BufTy := match i % 128 with
  | 0 => ⟨S8x4096x256, .bf16⟩
  | 1 => ⟨S31x256, .f32⟩
  | 2 => ⟨S256, .f32⟩
  | 3 => ⟨S256, .f32⟩
  | 4 => ⟨S256, .f32⟩
  | 5 => ⟨S8x4096x256, .f32⟩
  | 6 => ⟨S_, .i32⟩
  | 7 => ⟨S_, .f32⟩
  | 8 => ⟨S8x4126x256, .f32⟩
  | 9 => ⟨S8x4096x256, .f32⟩
  | 10 => ⟨S1x256, .f32⟩
  | 11 => ⟨S256, .f32⟩
  | 12 => ⟨S1x1x256, .f32⟩
  | 13 => ⟨S8x4096x256, .f32⟩
  | 14 => ⟨S8x4096x256, .f32⟩
  | 15 => ⟨S_, .f32⟩
  | 16 => ⟨S8x4096x256, .f32⟩
  | 17 => ⟨S8x4096x256, .f32⟩
  | 18 => ⟨S8x4096x256, .f32⟩
  | 19 => ⟨S1x256, .f32⟩
  | 20 => ⟨S256, .f32⟩
  | 21 => ⟨S1x1x256, .f32⟩
  | 22 => ⟨S8x4096x256, .f32⟩
  | 23 => ⟨S8x4096x256, .f32⟩
  | 24 => ⟨S8x4096x256, .f32⟩
  | 25 => ⟨S8x4096x256, .f32⟩
  | 26 => ⟨S1x256, .f32⟩
  | 27 => ⟨S256, .f32⟩
  | 28 => ⟨S1x1x256, .f32⟩
  | 29 => ⟨S8x4096x256, .f32⟩
  | 30 => ⟨S8x4096x256, .f32⟩
  | 31 => ⟨S8x4096x256, .f32⟩
  | 32 => ⟨S8x4096x256, .f32⟩
  | 33 => ⟨S1x256, .f32⟩
  | 34 => ⟨S256, .f32⟩
  | 35 => ⟨S1x1x256, .f32⟩
  | 36 => ⟨S8x4096x256, .f32⟩
  | 37 => ⟨S8x4096x256, .f32⟩
  | 38 => ⟨S8x4096x256, .f32⟩
  | 39 => ⟨S8x4096x256, .f32⟩
  | 40 => ⟨S1x256, .f32⟩
  | 41 => ⟨S256, .f32⟩
  | 42 => ⟨S1x1x256, .f32⟩
  | 43 => ⟨S8x4096x256, .f32⟩
  | 44 => ⟨S8x4096x256, .f32⟩
  | 45 => ⟨S8x4096x256, .f32⟩
  | 46 => ⟨S8x4096x256, .f32⟩
  | 47 => ⟨S1x256, .f32⟩
  | 48 => ⟨S256, .f32⟩
  | 49 => ⟨S1x1x256, .f32⟩
  | 50 => ⟨S8x4096x256, .f32⟩
  | 51 => ⟨S8x4096x256, .f32⟩
  | 52 => ⟨S8x4096x256, .f32⟩
  | 53 => ⟨S8x4096x256, .f32⟩
  | 54 => ⟨S1x256, .f32⟩
  | 55 => ⟨S256, .f32⟩
  | 56 => ⟨S1x1x256, .f32⟩
  | 57 => ⟨S8x4096x256, .f32⟩
  | 58 => ⟨S8x4096x256, .f32⟩
  | 59 => ⟨S8x4096x256, .f32⟩
  | 60 => ⟨S8x4096x256, .f32⟩
  | 61 => ⟨S1x256, .f32⟩
  | 62 => ⟨S256, .f32⟩
  | 63 => ⟨S1x1x256, .f32⟩
  | 64 => ⟨S8x4096x256, .f32⟩
  | 65 => ⟨S8x4096x256, .f32⟩
  | 66 => ⟨S8x4096x256, .f32⟩
  | 67 => ⟨S8x4096x256, .f32⟩
  | 68 => ⟨S1x256, .f32⟩
  | 69 => ⟨S256, .f32⟩
  | 70 => ⟨S1x1x256, .f32⟩
  | 71 => ⟨S8x4096x256, .f32⟩
  | 72 => ⟨S8x4096x256, .f32⟩
  | 73 => ⟨S8x4096x256, .f32⟩
  | 74 => ⟨S8x4096x256, .f32⟩
  | 75 => ⟨S1x256, .f32⟩
  | 76 => ⟨S256, .f32⟩
  | 77 => ⟨S1x1x256, .f32⟩
  | 78 => ⟨S8x4096x256, .f32⟩
  | 79 => ⟨S8x4096x256, .f32⟩
  | 80 => ⟨S8x4096x256, .f32⟩
  | 81 => ⟨S8x4096x256, .f32⟩
  | 82 => ⟨S1x256, .f32⟩
  | 83 => ⟨S256, .f32⟩
  | 84 => ⟨S1x1x256, .f32⟩
  | 85 => ⟨S8x4096x256, .f32⟩
  | 86 => ⟨S8x4096x256, .f32⟩
  | 87 => ⟨S8x4096x256, .f32⟩
  | 88 => ⟨S8x4096x256, .f32⟩
  | 89 => ⟨S1x256, .f32⟩
  | 90 => ⟨S256, .f32⟩
  | 91 => ⟨S1x1x256, .f32⟩
  | 92 => ⟨S8x4096x256, .f32⟩
  | 93 => ⟨S8x4096x256, .f32⟩
  | 94 => ⟨S8x4096x256, .f32⟩
  | 95 => ⟨S8x4096x256, .f32⟩
  | 96 => ⟨S1x256, .f32⟩
  | 97 => ⟨S256, .f32⟩
  | 98 => ⟨S1x1x256, .f32⟩
  | 99 => ⟨S8x4096x256, .f32⟩
  | 100 => ⟨S8x4096x256, .f32⟩
  | 101 => ⟨S8x4096x256, .f32⟩
  | 102 => ⟨S8x4096x256, .f32⟩
  | 103 => ⟨S1x256, .f32⟩
  | 104 => ⟨S256, .f32⟩
  | 105 => ⟨S1x1x256, .f32⟩
  | 106 => ⟨S8x4096x256, .f32⟩
  | 107 => ⟨S8x4096x256, .f32⟩
  | 108 => ⟨S8x4096x256, .f32⟩
  | 109 => ⟨S8x4096x256, .f32⟩
  | 110 => ⟨S1x256, .f32⟩
  | 111 => ⟨S256, .f32⟩
  | 112 => ⟨S1x1x256, .f32⟩
  | 113 => ⟨S8x4096x256, .f32⟩
  | 114 => ⟨S8x4096x256, .f32⟩
  | 115 => ⟨S8x4096x256, .f32⟩
  | 116 => ⟨S8x4096x256, .f32⟩
  | 117 => ⟨S1x256, .f32⟩
  | 118 => ⟨S256, .f32⟩
  | 119 => ⟨S1x1x256, .f32⟩
  | 120 => ⟨S8x4096x256, .f32⟩
  | 121 => ⟨S8x4096x256, .f32⟩
  | 122 => ⟨S8x4096x256, .f32⟩
  | 123 => ⟨S8x4096x256, .f32⟩
  | 124 => ⟨S1x256, .f32⟩
  | 125 => ⟨S256, .f32⟩
  | 126 => ⟨S1x1x256, .f32⟩
  | 127 => ⟨S8x4096x256, .f32⟩
  | _ => ⟨S8x4096x256, .bf16⟩

abbrev hbmTy0_1 (i : Nat) : BufTy := match i % 128 with
  | 0 => ⟨S8x4096x256, .f32⟩
  | 1 => ⟨S8x4096x256, .f32⟩
  | 2 => ⟨S8x4096x256, .f32⟩
  | 3 => ⟨S1x256, .f32⟩
  | 4 => ⟨S256, .f32⟩
  | 5 => ⟨S1x1x256, .f32⟩
  | 6 => ⟨S8x4096x256, .f32⟩
  | 7 => ⟨S8x4096x256, .f32⟩
  | 8 => ⟨S8x4096x256, .f32⟩
  | 9 => ⟨S8x4096x256, .f32⟩
  | 10 => ⟨S1x256, .f32⟩
  | 11 => ⟨S256, .f32⟩
  | 12 => ⟨S1x1x256, .f32⟩
  | 13 => ⟨S8x4096x256, .f32⟩
  | 14 => ⟨S8x4096x256, .f32⟩
  | 15 => ⟨S8x4096x256, .f32⟩
  | 16 => ⟨S8x4096x256, .f32⟩
  | 17 => ⟨S1x256, .f32⟩
  | 18 => ⟨S256, .f32⟩
  | 19 => ⟨S1x1x256, .f32⟩
  | 20 => ⟨S8x4096x256, .f32⟩
  | 21 => ⟨S8x4096x256, .f32⟩
  | 22 => ⟨S8x4096x256, .f32⟩
  | 23 => ⟨S8x4096x256, .f32⟩
  | 24 => ⟨S1x256, .f32⟩
  | 25 => ⟨S256, .f32⟩
  | 26 => ⟨S1x1x256, .f32⟩
  | 27 => ⟨S8x4096x256, .f32⟩
  | 28 => ⟨S8x4096x256, .f32⟩
  | 29 => ⟨S8x4096x256, .f32⟩
  | 30 => ⟨S8x4096x256, .f32⟩
  | 31 => ⟨S1x256, .f32⟩
  | 32 => ⟨S256, .f32⟩
  | 33 => ⟨S1x1x256, .f32⟩
  | 34 => ⟨S8x4096x256, .f32⟩
  | 35 => ⟨S8x4096x256, .f32⟩
  | 36 => ⟨S8x4096x256, .f32⟩
  | 37 => ⟨S8x4096x256, .f32⟩
  | 38 => ⟨S1x256, .f32⟩
  | 39 => ⟨S256, .f32⟩
  | 40 => ⟨S1x1x256, .f32⟩
  | 41 => ⟨S8x4096x256, .f32⟩
  | 42 => ⟨S8x4096x256, .f32⟩
  | 43 => ⟨S8x4096x256, .f32⟩
  | 44 => ⟨S8x4096x256, .f32⟩
  | 45 => ⟨S1x256, .f32⟩
  | 46 => ⟨S256, .f32⟩
  | 47 => ⟨S1x1x256, .f32⟩
  | 48 => ⟨S8x4096x256, .f32⟩
  | 49 => ⟨S8x4096x256, .f32⟩
  | 50 => ⟨S8x4096x256, .f32⟩
  | 51 => ⟨S8x4096x256, .f32⟩
  | 52 => ⟨S1x256, .f32⟩
  | 53 => ⟨S256, .f32⟩
  | 54 => ⟨S1x1x256, .f32⟩
  | 55 => ⟨S8x4096x256, .f32⟩
  | 56 => ⟨S8x4096x256, .f32⟩
  | 57 => ⟨S8x4096x256, .f32⟩
  | 58 => ⟨S8x4096x256, .f32⟩
  | 59 => ⟨S1x256, .f32⟩
  | 60 => ⟨S256, .f32⟩
  | 61 => ⟨S1x1x256, .f32⟩
  | 62 => ⟨S8x4096x256, .f32⟩
  | 63 => ⟨S8x4096x256, .f32⟩
  | 64 => ⟨S8x4096x256, .f32⟩
  | 65 => ⟨S8x4096x256, .f32⟩
  | 66 => ⟨S1x256, .f32⟩
  | 67 => ⟨S256, .f32⟩
  | 68 => ⟨S1x1x256, .f32⟩
  | 69 => ⟨S8x4096x256, .f32⟩
  | 70 => ⟨S8x4096x256, .f32⟩
  | 71 => ⟨S8x4096x256, .f32⟩
  | 72 => ⟨S8x4096x256, .f32⟩
  | 73 => ⟨S1x256, .f32⟩
  | 74 => ⟨S256, .f32⟩
  | 75 => ⟨S1x1x256, .f32⟩
  | 76 => ⟨S8x4096x256, .f32⟩
  | 77 => ⟨S8x4096x256, .f32⟩
  | 78 => ⟨S8x4096x256, .f32⟩
  | 79 => ⟨S8x4096x256, .f32⟩
  | 80 => ⟨S1x256, .f32⟩
  | 81 => ⟨S256, .f32⟩
  | 82 => ⟨S1x1x256, .f32⟩
  | 83 => ⟨S8x4096x256, .f32⟩
  | 84 => ⟨S8x4096x256, .f32⟩
  | 85 => ⟨S8x4096x256, .f32⟩
  | 86 => ⟨S8x4096x256, .f32⟩
  | 87 => ⟨S1x256, .f32⟩
  | 88 => ⟨S256, .f32⟩
  | 89 => ⟨S1x1x256, .f32⟩
  | 90 => ⟨S8x4096x256, .f32⟩
  | 91 => ⟨S8x4096x256, .f32⟩
  | 92 => ⟨S8x4096x256, .f32⟩
  | 93 => ⟨S8x4096x256, .f32⟩
  | 94 => ⟨S1x256, .f32⟩
  | 95 => ⟨S256, .f32⟩
  | 96 => ⟨S1x1x256, .f32⟩
  | 97 => ⟨S8x4096x256, .f32⟩
  | 98 => ⟨S8x4096x256, .f32⟩
  | 99 => ⟨S8x4096x256, .f32⟩
  | 100 => ⟨S1x1x256, .f32⟩
  | 101 => ⟨S8x4096x256, .f32⟩
  | 102 => ⟨S8x4096x256, .f32⟩
  | 103 => ⟨S_, .f32⟩
  | 104 => ⟨S8x4096, .f32⟩
  | 105 => ⟨S8x4096x1, .f32⟩
  | 106 => ⟨S_, .f32⟩
  | 107 => ⟨S8x4096x1, .f32⟩
  | 108 => ⟨S8x4096x1, .f32⟩
  | 109 => ⟨S8x4096x256, .f32⟩
  | 110 => ⟨S8x4096x256, .f32⟩
  | 111 => ⟨S8x4096x256, .f32⟩
  | 112 => ⟨S_, .f32⟩
  | 113 => ⟨S8x4096, .f32⟩
  | 114 => ⟨S8x4096x1, .f32⟩
  | 115 => ⟨S_, .f32⟩
  | 116 => ⟨S8x4096x1, .f32⟩
  | 117 => ⟨S8x4096x1, .f32⟩
  | 118 => ⟨S_, .f32⟩
  | 119 => ⟨S8x4096x1, .f32⟩
  | 120 => ⟨S8x4096x1, .f32⟩
  | 121 => ⟨S8x4096x1, .f32⟩
  | 122 => ⟨S8x4096x256, .f32⟩
  | 123 => ⟨S8x4096x256, .f32⟩
  | 124 => ⟨S1x1x256, .f32⟩
  | 125 => ⟨S8x4096x256, .f32⟩
  | 126 => ⟨S8x4096x256, .f32⟩
  | 127 => ⟨S1x1x256, .f32⟩
  | _ => ⟨S8x4096x256, .bf16⟩

abbrev hbmTy0_2 (i : Nat) : BufTy := match i % 128 with
  | 0 => ⟨S8x4096x256, .f32⟩
  | 1 => ⟨S8x4096x256, .f32⟩
  | 2 => ⟨S8x4096x256, .f32⟩
  | 3 => ⟨S8x4096x256, .f32⟩
  | 4 => ⟨S_, .f32⟩
  | 5 => ⟨S8x4096x256, .f32⟩
  | 6 => ⟨S8x4096x256, .f32⟩
  | 7 => ⟨S_, .f32⟩
  | 8 => ⟨S8x4096x256, .f32⟩
  | 9 => ⟨S8x4096x256, .f32⟩
  | 10 => ⟨S8x4096x256, .f32⟩
  | 11 => ⟨S8x4096x256, .bf16⟩
  | _ => ⟨S8x4096x256, .bf16⟩

abbrev hbmTy (i : Nat) : BufTy := match i / 128 with
  | 0 => hbmTy0_0 i
  | 1 => hbmTy0_1 i
  | 2 => hbmTy0_2 i
  | _ => ⟨S8x4096x256, .bf16⟩

abbrev bufTy : (tb : Table) → Fin (tcTables nBuf tb) → BufTy
  | .hbm, ⟨i, _⟩ => hbmTy i
  | _, _ => ⟨S8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_cst_0 : Ref sig .tc := ⟨.hbm, 231, rfl⟩
abbrev main_v223 : Ref sig .tc := ⟨.hbm, 232, rfl⟩
abbrev main_v224 : Ref sig .tc := ⟨.hbm, 233, rfl⟩
abbrev main_cst_1 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_cst_2 : Ref sig .tc := ⟨.hbm, 240, rfl⟩
abbrev main_v230 : Ref sig .tc := ⟨.hbm, 241, rfl⟩
abbrev main_v231 : Ref sig .tc := ⟨.hbm, 242, rfl⟩
abbrev main_cst_3 : Ref sig .tc := ⟨.hbm, 243, rfl⟩
abbrev main_v232 : Ref sig .tc := ⟨.hbm, 244, rfl⟩
abbrev main_v233 : Ref sig .tc := ⟨.hbm, 245, rfl⟩
abbrev main_cst_4 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_call1_v0 : Ref sig .tc := ⟨.hbm, 258, rfl⟩
abbrev main_call1_v1 : Ref sig .tc := ⟨.hbm, 259, rfl⟩
abbrev main_call1_cst : Ref sig .tc := ⟨.hbm, 260, rfl⟩
abbrev main_call1_v2 : Ref sig .tc := ⟨.hbm, 261, rfl⟩
abbrev main_call1_v3 : Ref sig .tc := ⟨.hbm, 262, rfl⟩
abbrev main_call1_cst_0 : Ref sig .tc := ⟨.hbm, 263, rfl⟩
abbrev main_call1_v4 : Ref sig .tc := ⟨.hbm, 264, rfl⟩
abbrev main_call1_v5 : Ref sig .tc := ⟨.hbm, 265, rfl⟩
abbrev main_v245 : Ref sig .tc := ⟨.hbm, 266, rfl⟩
abbrev main_v246 : Ref sig .tc := ⟨.hbm, 267, rfl⟩

abbrev nD : Nat := 1
abbrev τ : Topo := Topo.v7x

variable {F : FTy → Type} [FloatOps F]
-- ==== Proof.RetAlg.lean ====
/-
  THE RETENTION OF ONE HEAD, over the reals: the closed form (every position against every position before it, weighted by
  the decay of their distance) and the chunked form (256 positions against a carried state), and that they agree.
-/
module

public import Idealize.ShloMosaic.PureOps.Ideal
public import Idealize.ShloMosaic.Lib.Pointwise.Sums

@[expose] public section

noncomputable section

namespace Cert.Proof.RetAlg

open scoped BigOperators
open Finset

/-- The closed form at position `t`, one value lane `v`: `lg` is the logarithm of the head's decay. -/
def out (lg : ℝ) (q : Fin 64 → ℝ) (k : ℕ → Fin 64 → ℝ) (v : ℕ → ℝ) (t : ℕ) : ℝ :=
  ∑ s ∈ range (t + 1), (∑ d, q d * k s d) * Real.exp (lg * ((t : ℝ) - s)) * v s

/-- The state carried into chunk `n`: one key lane `k` against one value lane `v`, every position decayed to the chunk's
    eve. -/
def state (lg : ℝ) (k v : ℕ → ℝ) (n : ℕ) : ℝ :=
  ∑ s ∈ range (256 * n), Real.exp (lg * (256 * (n : ℝ) - 1 - s)) * (k s * v s)

theorem state_zero (lg : ℝ) (k v : ℕ → ℝ) : state lg k v 0 = 0 := by simp [state]

/-- One chunk further: the old state decayed by 256 positions, plus the chunk's own keys and values. -/
theorem state_succ (lg : ℝ) (k v : ℕ → ℝ) (n : ℕ) :
    state lg k v (n + 1) = state lg k v n * Real.exp (lg * 256)
      + ∑ j : Fin 256, k (256 * n + j) * Real.exp (lg * (255 - (j : ℕ))) * v (256 * n + j) := by
  unfold state
  rw [show 256 * (n + 1) = 256 * n + 256 by ring, sum_range_add, sum_mul,
    ← Fin.sum_univ_eq_sum_range (fun j => Real.exp (lg * (256 * ((n + 1 : ℕ) : ℝ) - 1 - ((256 * n + j : ℕ) : ℝ))) * (k (256 * n + j) * v (256 * n + j))) 256]
  refine congrArg₂ (· + ·) (sum_congr rfl fun s _ => ?_) (sum_congr rfl fun j _ => ?_)
  · rw [show lg * (256 * ((n + 1 : ℕ) : ℝ) - 1 - s) = lg * (256 * (n : ℝ) - 1 - s) + lg * 256 by push_cast; ring, Real.exp_add]
    ring
  · rw [show lg * (256 * ((n + 1 : ℕ) : ℝ) - 1 - ((256 * n + (j : ℕ) : ℕ) : ℝ)) = lg * (255 - (j : ℕ)) by push_cast; ring]
    ring

/-- The closed form from the chunked one: position `r` of chunk `n` reads the carried state, and the chunk's own positions
    up to itself. -/
theorem out_chunk (lg : ℝ) (q : Fin 64 → ℝ) (k : ℕ → Fin 64 → ℝ) (v : ℕ → ℝ) (n : ℕ) (r : Fin 256) :
    out lg q k v (256 * n + r)
      = (∑ d, q d * Real.exp (lg * ((r : ℕ) + 1)) * state lg (fun s => k s d) v n)
        + ∑ j : Fin 256, (∑ d, q d * k (256 * n + j) d) * (if (j : ℕ) ≤ r then Real.exp (lg * ((r : ℕ) - (j : ℕ))) else 0) * v (256 * n + j) := by
  unfold out state
  rw [show 256 * n + (r : ℕ) + 1 = 256 * n + (r + 1) by ring, sum_range_add]
  refine congrArg₂ (· + ·) ?_ ?_
  · simp only [mul_sum, sum_mul]
    rw [sum_comm]
    refine sum_congr rfl fun d _ => sum_congr rfl fun s _ => ?_
    rw [show lg * (((256 * n + (r : ℕ) : ℕ) : ℝ) - s) = lg * ((r : ℕ) + 1) + lg * (256 * (n : ℝ) - 1 - s) by push_cast; ring, Real.exp_add]
    ring
  · rw [Fin.sum_univ_eq_sum_range (fun j => (∑ d, q d * k (256 * n + j) d) * (if j ≤ (r : ℕ) then Real.exp (lg * ((r : ℕ) - (j : ℝ))) else 0) * v (256 * n + j)) 256]
    have hr : (r : ℕ) + 1 ≤ 256 := r.isLt
    rw [← sum_subset (range_subset_range.2 hr)]
    · refine sum_congr rfl fun j hj => ?_
      rw [if_pos (by have := mem_range.1 hj; omega),
        show lg * (((256 * n + (r : ℕ) : ℕ) : ℝ) - ((256 * n + j : ℕ) : ℝ)) = lg * ((r : ℕ) - (j : ℝ)) by push_cast; ring]
    · intro j _ hj
      rw [if_neg (fun h => hj (mem_range.2 (Nat.lt_succ_of_le h)))]
      simp

/-- The closed form over all 4096 positions, the later ones weighted zero. -/
theorem out_all (lg : ℝ) (q : Fin 64 → ℝ) (k : ℕ → Fin 64 → ℝ) (v : ℕ → ℝ) (t : Fin 4096) :
    (∑ s : Fin 4096, (∑ d, q d * k s d) * (if (s : ℕ) ≤ t then Real.exp (lg * ((t : ℕ) - (s : ℕ))) else 0) * v s)
      = out lg q k v t := by
  unfold out
  rw [Fin.sum_univ_eq_sum_range (fun s => (∑ d, q d * k s d) * (if s ≤ (t : ℕ) then Real.exp (lg * ((t : ℕ) - (s : ℝ))) else 0) * v s) 4096]
  have hr : (t : ℕ) + 1 ≤ 4096 := t.isLt
  rw [← sum_subset (range_subset_range.2 hr)]
  · refine sum_congr rfl fun j hj => ?_
    rw [if_pos (by have := mem_range.1 hj; omega)]
  · intro j _ hj
    rw [if_neg (fun h => hj (mem_range.2 (Nat.lt_succ_of_le h)))]
    simp

/-- A sum over 256 lanes of what belongs to one head is the sum over the head's 64 lanes. -/
theorem sum_head {M : Type} [AddCommMonoid M] (f : Fin 256 → M) (a : Fin 4) :
    (∑ d : Fin 256, if d.val / 64 = a.val then f d else 0) = ∑ d : Fin 64, f ⟨64 * a.val + d.val, by omega⟩ := by
  rw [← sum_filter]
  refine (sum_bij (fun (d : Fin 64) _ => (⟨64 * a.val + d.val, by omega⟩ : Fin 256)) ?_ ?_ ?_ ?_).symm
  · intro d _; simp only [mem_filter, mem_univ, true_and]; have := d.isLt; omega
  · intro d _ d' _ h; have := congrArg Fin.val h; ext; simp only at this; omega
  · intro d hd
    simp only [mem_filter, mem_univ, true_and] at hd
    exact ⟨⟨d.val % 64, Nat.mod_lt _ (by norm_num)⟩, mem_univ _, by ext; simp only; omega⟩
  · intro d _; rfl

/-- A finite sum of reals, as extended reals. -/
theorem coe_sum {ι : Type} (s : Finset ι) (f : ι → ℝ) : ((∑ i ∈ s, f i : ℝ) : EReal) = ∑ i ∈ s, (f i : EReal) := by
  classical
  induction s using Finset.induction with
  | empty => simp
  | insert a s ha ih => rw [sum_insert ha, sum_insert ha, EReal.coe_add, ih]

end Cert.Proof.RetAlg

end
-- ==== Proof.RetBlock.lean ====
/-
  WHAT ONE GROUP OF FOUR HEADS COMPUTES at one grid point: the values of the two stores (output and state), written once for
  both groups of 256 lanes, and read at an index.
-/
module

public import proofs.«01_k».proof.Proof.Gen.KernelIdeal.Skeleton
public import proofs.«01_k».proof.Proof.RetAlg
public import Idealize.ShloMosaic.Lib.Pointwise

@[expose] public section

set_option maxRecDepth 16384

noncomputable section

namespace Cert.Proof.RetBlock

open Idealize.ShloMosaic Cert.KernelIdeal Cert.KernelIdeal.Gen Cert.Proof
open scoped BigOperators

/-- The lane numbers. -/
def lanes : IVec S256x256 32 := iota .tc S256x256 32 [1] iota_S256x256_d1_w32

/-- The lanes of one head, as the kernel marks them. -/
def mask (lo hi : BitVec 32) : IVec S256x256 1 :=
  andi (cmpi .sge lanes (broadcast S256x256 lo)) (cmpi .slt lanes (broadcast S256x256 hi))

/-- What one head of the group adds: its own chunk's scores, decayed, against the values. -/
def head (mk : IVec S256x256 1) (q k v : FVec Ideal S256x256 .bf16) (D : Vec Ideal S1x256x256 .f32) : FVec Ideal S256x256 .f32 :=
  select mk (matmul dot_S256x256_S256x256_S256x256_1_0_0_1_n_n none
      (truncf .bf16 (mulf (matmul dot_S256x256_S256x256_S256x256_1_1_0_0_n_n none
          (select mk q (broadcast S256x256 (Scalar.ofBits .bf16 0x0000#16))) k (constant S256x256 .f32 0x00000000#32))
        (shapeCast S256x256 D shapeCasts_S1x256x256_S256x256)) bitsLt_bf16_f32 : FVec Ideal S256x256 .bf16)
      v (constant S256x256 .f32 0x00000000#32))
    (broadcast S256x256 (Scalar.ofBits .f32 0x00000000#32))

theorem lanes_apply (r e : Fin 256) : lanes (ix2 r e) = BitVec.ofNat 32 e.val := by
  pointwise [lanes]

theorem mask_apply (a : Fin 4) (r e : Fin 256) :
    mask (BitVec.ofNat 32 (64 * a.val)) (BitVec.ofNat 32 (64 * a.val + 64)) (ix2 r e) = if e.val / 64 = a.val then 1#1 else 0#1 := by
  pointwise [mask, lanes_apply]
  revert e a
  decide +kernel

/-- Lane `d` of head `a` within the group. -/
abbrev lane (a : Fin 4) (d : Fin 64) : Fin 256 := ⟨64 * a.val + d.val, by omega⟩

/-- The mark of head `a`. -/
abbrev markOf (a : Fin 4) : IVec S256x256 1 := mask (BitVec.ofNat 32 (64 * a.val)) (BitVec.ofNat 32 (64 * a.val + 64))

theorem head_apply (a : Fin 4) (q k v : FVec Ideal S256x256 .bf16) (D : Vec Ideal S1x256x256 .f32) (r e : Fin 256) :
    head (markOf a) q k v D (ix2 r e)
      = if e.val / 64 = a.val then
          ∑ j : Fin 256, (∑ d : Fin 64, q (ix2 r (lane a d)) * k (ix2 j (lane a d))) * D (ix3 0 r j) * v (ix2 j e)
        else 0 := by
  have hm : ∀ x : Fin 256, markOf a (ix2 r x) = if x.val / 64 = a.val then 1#1 else 0#1 := mask_apply a r
  have hs : ∀ (p : Prop) [Decidable p] (x y : EReal), Scalar.select (if p then 1#1 else 0#1) x y = if p then x else y := by
    intro p _ x y; split_ifs <;> rfl
  pointwise [head, dot_S256x256_S256x256_S256x256_1_0_0_1_n_n, dot_S256x256_S256x256_S256x256_1_1_0_0_n_n]
  simp only [hm, hs, RetAlg.sum_head]

/-- The old state's part of the output. -/
theorem cross_apply (q : Vec Ideal S1x256x256 .bf16) (st : Vec Ideal S1x256x256 .f32) (qd : Vec Ideal S256x256 .f32) (r e : Fin 256) :
    k0_pay8 q st qd (ix2 r e) = ∑ d : Fin 256, q (ix3 0 r d) * qd (ix2 r d) * st (ix3 0 d e) := by
  pointwise [k0_pay8, k0_pay4, k0_pay7, dot_S256x256_S256x256_S256x256_1_0_0_1_n_n]

/-- The group's output before its norm. -/
def mixed (q k v : Vec Ideal S1x256x256 .bf16) (st : Vec Ideal S1x256x256 .f32) (qd : Vec Ideal S256x256 .f32)
    (D0 D1 D2 D3 : Vec Ideal S1x256x256 .f32) : FVec Ideal S256x256 .f32 :=
  addf (addf (addf (addf (k0_pay8 q st qd) (head (markOf 0) (k0_pay4 q) (k0_pay5 k) (k0_pay6 v) D0))
    (head (markOf 1) (k0_pay4 q) (k0_pay5 k) (k0_pay6 v) D1)) (head (markOf 2) (k0_pay4 q) (k0_pay5 k) (k0_pay6 v) D2))
    (head (markOf 3) (k0_pay4 q) (k0_pay5 k) (k0_pay6 v) D3)

theorem mixed_apply (q k v : Vec Ideal S1x256x256 .bf16) (st : Vec Ideal S1x256x256 .f32) (qd : Vec Ideal S256x256 .f32)
    (D : Fin 4 → Vec Ideal S1x256x256 .f32) (r : Fin 256) (a : Fin 4) (e : Fin 64) :
    mixed q k v st qd (D 0) (D 1) (D 2) (D 3) (ix2 r (lane a e))
      = (∑ d : Fin 256, q (ix3 0 r d) * qd (ix2 r d) * st (ix3 0 d (lane a e)))
        + ∑ j : Fin 256, (∑ d : Fin 64, q (ix3 0 r (lane a d)) * k (ix3 0 j (lane a d))) * D a (ix3 0 r j) * v (ix3 0 j (lane a e)) := by
  pointwise [mixed, cross_apply, head_apply, k0_pay4, k0_pay5, k0_pay6]
  have h : (64 * a.val + e.val) / 64 = a.val := by have := e.isLt; omega
  simp only [h]
  fin_cases a <;> simp

/-- The group's new state. -/
theorem state_apply (k v : FVec Ideal S256x256 .bf16) (st : FVec Ideal S256x256 .f32) (kd : Vec Ideal S256x256 .f32)
    (cd : Vec Ideal S1x256 .f32) (bd : Vec Ideal S256x256 .f32) (d e : Fin 256) :
    k0_pay15 k v st kd cd bd (ix3 0 d e)
      = st (ix2 d e) * cd (ix2 0 e) + (∑ j : Fin 256, k (ix2 j d) * kd (ix2 j d) * v (ix2 j e)) * bd (ix2 d e) := by
  pointwise [k0_pay15, dot_S256x256_S256x256_S256x256_0_0_1_1_n_n]

/-- The group's normed and gated output. -/
theorem normed_apply (o : FVec Ideal S256x256 .f32) (ones : Vec Ideal S256x256 .bf16) (g : Vec Ideal S1x256 .f32)
    (sg : Vec Ideal S1x256x256 .bf16) (r e : Fin 256) :
    k0_pay2 o ones g sg (ix3 0 r e)
      = o (ix2 r e) * Ideal.rsqrt ((∑ x : Fin 256, o (ix2 r x) * o (ix2 r x) * ones (ix2 x e)) * Ideal.ofBits .f32 0x3C800000#32
          + Ideal.ofBits .f32 0x358637BD#32) * g (ix2 0 e) * sg (ix3 0 r e) := by
  pointwise [k0_pay2, dot_S256x256_S256x256_S256x256_1_0_0_1_n_n]

/-! ### The printed payloads of the two groups are these. -/

variable (q k v : Vec Ideal S1x256x256 .bf16) (st : Vec Ideal S1x256x256 .f32) (qd kd : Vec Ideal S256x256 .f32)
variable (D0 D1 D2 D3 : Vec Ideal S1x256x256 .f32) (ones : Vec Ideal S256x256 .bf16) (bd : Vec Ideal S256x256 .f32)
variable (g cd : Vec Ideal S1x256 .f32) (sg : Vec Ideal S1x256x256 .bf16)

theorem mixed_first :
    k0_pay14 (k0_pay4 q) (k0_pay5 k) (k0_pay6 v)
        (k0_pay11 lanes (k0_pay4 q) (k0_pay5 k) (k0_pay6 v) (k0_pay8 q st qd) k0_pay9 (k0_pay10 q k v D0) D1 D2)
        (k0_pay12 lanes) (k0_pay13 lanes) D3 = mixed q k v st qd D0 D1 D2 D3 := rfl

theorem normed_first (v66 : FVec Ideal S256x256 .f32) (m1 m2 : IVec S256x256 1) (qq kk vv : FVec Ideal S256x256 .bf16) :
    k0_pay18 (k0_pay14 qq kk vv v66 m1 m2 D3) (k0_pay16 qq kk vv v66 m1 m2 D3 ones) k0_pay17 g sg
      = k0_pay2 (k0_pay14 qq kk vv v66 m1 m2 D3) ones g sg := rfl

theorem mixed_second :
    k0_pay29 lanes (k0_pay19 q) (k0_pay20 k) (k0_pay21 v)
        (k0_pay26 lanes (k0_pay19 q) (k0_pay20 k) (k0_pay21 v) (k0_pay23 q st qd) (k0_pay24 lanes) (k0_pay25 lanes) D0 D1)
        (k0_pay27 lanes) (k0_pay28 lanes (k0_pay19 q) (k0_pay20 k)) D2 D3 = mixed q k v st qd D0 D1 D2 D3 := rfl

theorem state_second :
    k0_pay1 (k0_pay30 (k0_pay20 k) (k0_pay21 v) (k0_pay22 st) kd cd bd)
      = k0_pay15 (k0_pay5 k) (k0_pay6 v) (k0_pay7 st) kd cd bd := rfl

end Cert.Proof.RetBlock

end
-- ==== Proof.RetPoint.lean ====
/-
  WHAT ONE GRID POINT of the retention leaves: the output block and the carried state, for each group of four heads, from the
  point's blocks and the state it found. The first chunk of a batch member finds a cleared state, a later chunk the state of
  the chunk before.
-/
module

public import proofs.«01_k».proof.Proof.Gen.KernelIdeal.Value
public import proofs.«01_k».proof.Proof.RetBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.RetPoint

open Idealize.ShloMosaic Idealize.ShloMosaic.TcCoe Cert.KernelIdeal Cert.KernelIdeal.Gen Cert.Proof
open scoped BigOperators

/-- Lane `e` of group `g`. -/
abbrev wide (g : Fin 2) (e : Fin 256) : Fin 512 := ⟨256 * g.val + e.val, by omega⟩

/-- One group's lanes of a block of positions. -/
def lanes3 {t : EltTy} (X : Vec Ideal S1x256x512 t) (g : Fin 2) : Vec Ideal S1x256x256 t := fun i => X (ix3 (i 0) (i 1) (wide g (i 2)))

/-- One group's lanes of a table over the chunk's positions. -/
def lanes2 {t : EltTy} (X : Vec Ideal S256x512 t) (g : Fin 2) : Vec Ideal S256x256 t := fun i => X (ix2 (i 0) (wide g (i 1)))

/-- One group's lanes of a row. -/
def lanes1 {t : EltTy} (X : Vec Ideal S1x512 t) (g : Fin 2) : Vec Ideal S1x256 t := fun i => X (ix2 (i 0) (wide g (i 1)))

/-- One head's table of a stack of eight. -/
def slice8 {t : EltTy} (X : Vec Ideal S8x256x256 t) (h : Fin 8) : Vec Ideal S1x256x256 t := fun i => X (ix3 h (i 1) (i 2))

/-- One group's state. -/
def slice2 {t : EltTy} (X : Vec Ideal S2x256x256 t) (g : Fin 2) : Vec Ideal S1x256x256 t := fun i => X (ix3 g (i 1) (i 2))

/-- Head `a` of group `g` among the eight. -/
abbrev headOf (g : Fin 2) (a : Fin 4) : Fin 8 := ⟨4 * g.val + a.val, by omega⟩

section loads
variable {t : EltTy}

theorem ld3_0 (X : Vec Ideal S1x256x512 t) (inb) : View.ld X (Rect.unit ![0, 0, 0] ![1, 256, 256] inb) = lanes3 X 0 := by
  funext i; refine congrArg X (funext fun a => Fin.ext ?_); fin_cases a <;> simp [Rect.unit, wide, ix3]
theorem ld3_1 (X : Vec Ideal S1x256x512 t) (inb) : View.ld X (Rect.unit ![0, 0, 256] ![1, 256, 256] inb) = lanes3 X 1 := by
  funext i; refine congrArg X (funext fun a => Fin.ext ?_); fin_cases a <;> simp [Rect.unit, wide, ix3]
theorem ld2_0 (X : Vec Ideal S256x512 t) (inb) : View.ld X (Rect.unit ![0, 0] ![256, 256] inb) = lanes2 X 0 := by
  funext i; refine congrArg X (funext fun a => Fin.ext ?_); fin_cases a <;> simp [Rect.unit, wide, ix2]
theorem ld2_1 (X : Vec Ideal S256x512 t) (inb) : View.ld X (Rect.unit ![0, 256] ![256, 256] inb) = lanes2 X 1 := by
  funext i; refine congrArg X (funext fun a => Fin.ext ?_); fin_cases a <;> simp [Rect.unit, wide, ix2]
theorem ld1_0 (X : Vec Ideal S1x512 t) (inb) : View.ld X (Rect.unit ![0, 0] ![1, 256] inb) = lanes1 X 0 := by
  funext i; refine congrArg X (funext fun a => Fin.ext ?_); fin_cases a <;> simp [Rect.unit, wide, ix2]
theorem ld1_1 (X : Vec Ideal S1x512 t) (inb) : View.ld X (Rect.unit ![0, 256] ![1, 256] inb) = lanes1 X 1 := by
  funext i; refine congrArg X (funext fun a => Fin.ext ?_); fin_cases a <;> simp [Rect.unit, wide, ix2]
theorem ld8 (X : Vec Ideal S8x256x256 t) (h : Fin 8) (inb) :
    View.ld X (Rect.unit ![h.val, 0, 0] ![1, 256, 256] inb) = slice8 X h := by
  funext i; refine congrArg X (funext fun a => Fin.ext ?_)
  have hi : (i 0).val = 0 := by have : (i 0).val < 1 := (i 0).isLt
                                omega
  fin_cases a <;> simp [Rect.unit, ix3, hi]
theorem lds (X : Vec Ideal S2x256x256 t) (g : Fin 2) (inb) :
    View.ld X (Rect.unit ![g.val, 0, 0] ![1, 256, 256] inb) = slice2 X g := by
  funext i; refine congrArg X (funext fun a => Fin.ext ?_)
  have hi : (i 0).val = 0 := by have : (i 0).val < 1 := (i 0).isLt
                                omega
  fin_cases a <;> simp [Rect.unit, ix3, hi]

end loads

variable (m : (ℓ : Loc nD τ sig) → Buf (Elt Ideal) ℓ) (c : Dev nD)

/-- What a point stores of group `g`'s output, over the state `st` it found. -/
def newOut (t : Fin cfg0.N) (st : Vec Ideal S1x256x256 .f32) (g : Fin 2) : Vec Ideal S1x256x256 .bf16 :=
  k0_pay2 (RetBlock.mixed (lanes3 (iblk m c 0 t) g) (lanes3 (iblk m c 1 t) g) (lanes3 (iblk m c 2 t) g) st (lanes2 (iblk m c 4 t) g)
      (slice8 (iblk m c 6 t) (headOf g 0)) (slice8 (iblk m c 6 t) (headOf g 1)) (slice8 (iblk m c 6 t) (headOf g 2))
      (slice8 (iblk m c 6 t) (headOf g 3)))
    (iblk m c 9 t) (lanes1 (iblk m c 10 t) g) (lanes3 (iblk m c 3 t) g)

/-- What a point stores of group `g`'s state, over the state `st` it found. -/
def newState (t : Fin cfg0.N) (st : Vec Ideal S1x256x256 .f32) (g : Fin 2) : Vec Ideal S1x256x256 .f32 :=
  k0_pay15 (k0_pay5 (lanes3 (iblk m c 1 t) g)) (k0_pay6 (lanes3 (iblk m c 2 t) g)) (k0_pay7 st) (lanes2 (iblk m c 5 t) g)
    (lanes1 (iblk m c 7 t) g) (iblk m c 8 t)

/-- A store over earlier stores, read at a place it covers. -/
theorem canon_hit {S : Shape} {t : EltTy} (r : Rect S) (w : r.shape.Idx → Elt Ideal t) (L : List (View.Piece (Elt Ideal) S t))
    (x : r.shape.Idx) (y : S.Idx) (h : r.emb x = y) : View.canon (⟨r, w⟩ :: L) y = w x := by
  subst h; exact View.canon_cons_emb r w L x

theorem two (g : Fin 2) : g = 0 ∨ g = 1 := by revert g; decide

theorem out_split (B A : Vec Ideal S1x256x256 .bf16)
    (i1 : ∀ a, (![0, 0, 256] : Fin 3 → Nat) a + (![1, 256, 256] : Fin 3 → Nat) a ≤ S1x256x512.size a)
    (i0 : ∀ a, (![0, 0, 0] : Fin 3 → Nat) a + (![1, 256, 256] : Fin 3 → Nat) a ≤ S1x256x512.size a) (g : Fin 2) (r e : Fin 256) :
    View.canon (Val := Elt Ideal) (s := S1x256x512) (e := .bf16) [⟨Rect.unit ![0, 0, 256] ![1, 256, 256] i1, B⟩, ⟨Rect.unit ![0, 0, 0] ![1, 256, 256] i0, A⟩]
        (ix3 0 r (wide g e)) = if g = 0 then A (ix3 0 r e) else B (ix3 0 r e) := by
  obtain rfl | rfl := two g
  · rw [if_pos rfl, View.canon_cons_of_not_mem]
    · refine canon_hit (S := S1x256x512) (t := .bf16) (Rect.unit ![0, 0, 0] ![1, 256, 256] i0) A [] (ix3 0 r e : S1x256x256.Idx) _ ?_
      refine funext fun a => Fin.ext ((ValueKit.rect_emb_unit_val _ _ _ _ a).trans ?_); fin_cases a <;> simp [wide, ix3]
    · intro h
      have := ((Rect.mem_set_unit (s := S1x256x512) (inb := i1)).1 h 2).1
      have he := e.isLt
      simp [wide, ix3] at this
      omega
  · rw [if_neg (by decide)]
    refine canon_hit (S := S1x256x512) (t := .bf16) (Rect.unit ![0, 0, 256] ![1, 256, 256] i1) B _ (ix3 0 r e : S1x256x256.Idx) _ ?_
    refine funext fun a => Fin.ext ((ValueKit.rect_emb_unit_val _ _ _ _ a).trans ?_); fin_cases a <;> simp [wide, ix3]

theorem state_split (B A : Vec Ideal S1x256x256 .f32) (L : List (View.Piece (Elt Ideal) S2x256x256 .f32))
    (i1 : ∀ a, (![1, 0, 0] : Fin 3 → Nat) a + (![1, 256, 256] : Fin 3 → Nat) a ≤ S2x256x256.size a)
    (i0 : ∀ a, (![0, 0, 0] : Fin 3 → Nat) a + (![1, 256, 256] : Fin 3 → Nat) a ≤ S2x256x256.size a) (g : Fin 2) (d e : Fin 256) :
    View.canon (Val := Elt Ideal) (s := S2x256x256) (e := .f32) (⟨Rect.unit ![1, 0, 0] ![1, 256, 256] i1, B⟩ :: ⟨Rect.unit ![0, 0, 0] ![1, 256, 256] i0, A⟩ :: L)
        (ix3 g d e) = if g = 0 then A (ix3 0 d e) else B (ix3 0 d e) := by
  obtain rfl | rfl := two g
  · rw [if_pos rfl, View.canon_cons_of_not_mem]
    · refine canon_hit (S := S2x256x256) (t := .f32) (Rect.unit ![0, 0, 0] ![1, 256, 256] i0) A L (ix3 0 d e : S1x256x256.Idx) _ ?_
      refine funext fun a => Fin.ext ((ValueKit.rect_emb_unit_val _ _ _ _ a).trans ?_); fin_cases a <;> simp [ix3]
    · intro h
      have := ((Rect.mem_set_unit (s := S2x256x256) (inb := i1)).1 h 0).1
      simp [ix3] at this
  · rw [if_neg (by decide)]
    refine canon_hit (S := S2x256x256) (t := .f32) (Rect.unit ![1, 0, 0] ![1, 256, 256] i1) B _ (ix3 0 d e : S1x256x256.Idx) _ ?_
    refine funext fun a => Fin.ext ((ValueKit.rect_emb_unit_val _ _ _ _ a).trans ?_); fin_cases a <;> simp [ix3]

/-- The cleared state. -/
def clear : Vec Ideal S1x256x256 .f32 := fun _ => Ideal.ofBits .f32 0x00000000#32

theorem pay3 : (k0_pay3 : FVec Ideal S2x256x256 .f32) = fun _ => Ideal.ofBits .f32 0x00000000#32 := by
  funext i
  obtain ⟨a, d, e, rfl⟩ : ∃ (a : Fin 2) (d e : Fin 256), i = ix3 a d e := ⟨i 0, i 1, i 2, eq_ix3 i⟩
  pointwise [k0_pay3]

theorem lds0 {t : EltTy} (X : Vec Ideal S2x256x256 t) (inb) :
    View.ld X (Rect.unit ![0, 0, 0] ![1, 256, 256] inb) = slice2 X 0 := lds X 0 inb
theorem lds1 {t : EltTy} (X : Vec Ideal S2x256x256 t) (inb) :
    View.ld X (Rect.unit ![1, 0, 0] ![1, 256, 256] inb) = slice2 X 1 := lds X 1 inb
theorem slice_clear (g : Fin 2) : slice2 (t := .f32) (k0_pay3 : FVec Ideal S2x256x256 .f32) g = clear := by rw [pay3]; rfl

theorem ld8_0 {t : EltTy} (X : Vec Ideal S8x256x256 t) (inb) :
    View.ld X (Rect.unit ![0, 0, 0] ![1, 256, 256] inb) = slice8 X 0 := ld8 X 0 inb
theorem ld8_1 {t : EltTy} (X : Vec Ideal S8x256x256 t) (inb) :
    View.ld X (Rect.unit ![1, 0, 0] ![1, 256, 256] inb) = slice8 X 1 := ld8 X 1 inb
theorem ld8_2 {t : EltTy} (X : Vec Ideal S8x256x256 t) (inb) :
    View.ld X (Rect.unit ![2, 0, 0] ![1, 256, 256] inb) = slice8 X 2 := ld8 X 2 inb
theorem ld8_3 {t : EltTy} (X : Vec Ideal S8x256x256 t) (inb) :
    View.ld X (Rect.unit ![3, 0, 0] ![1, 256, 256] inb) = slice8 X 3 := ld8 X 3 inb
theorem ld8_4 {t : EltTy} (X : Vec Ideal S8x256x256 t) (inb) :
    View.ld X (Rect.unit ![4, 0, 0] ![1, 256, 256] inb) = slice8 X 4 := ld8 X 4 inb
theorem ld8_5 {t : EltTy} (X : Vec Ideal S8x256x256 t) (inb) :
    View.ld X (Rect.unit ![5, 0, 0] ![1, 256, 256] inb) = slice8 X 5 := ld8 X 5 inb
theorem ld8_6 {t : EltTy} (X : Vec Ideal S8x256x256 t) (inb) :
    View.ld X (Rect.unit ![6, 0, 0] ![1, 256, 256] inb) = slice8 X 6 := ld8 X 6 inb
theorem ld8_7 {t : EltTy} (X : Vec Ideal S8x256x256 t) (inb) :
    View.ld X (Rect.unit ![7, 0, 0] ![1, 256, 256] inb) = slice8 X 7 := ld8 X 7 inb

theorem fill0 (inb inb') :
    (View.whole cc0_scratch0).readCov [(⟨Rect.unit ![0, 0, 0] ![2, 256, 256] inb, (k0_pay3 : FVec Ideal S2x256x256 .f32)⟩ : View.Piece (Elt Ideal) S2x256x256 .f32)]
      (Rect.unit ![0, 0, 0] ![1, 256, 256] inb').toLoadRect = clear :=
  (View.readCov_fill (View.whole cc0_scratch0) inb _ [] (Rect.unit ![0, 0, 0] ![1, 256, 256] inb') (by decide)).trans
    ((lds0 (t := .f32) (k0_pay3 : FVec Ideal S2x256x256 .f32) inb').trans (slice_clear 0))

theorem fill1 (P : Vec Ideal S1x256x256 .f32) (i0 inb inb') :
    (View.whole cc0_scratch0).readCov [(⟨Rect.unit ![0, 0, 0] ![1, 256, 256] i0, P⟩ : View.Piece (Elt Ideal) S2x256x256 .f32),
        ⟨Rect.unit ![0, 0, 0] ![2, 256, 256] inb, (k0_pay3 : FVec Ideal S2x256x256 .f32)⟩]
      (Rect.unit ![1, 0, 0] ![1, 256, 256] inb').toLoadRect = clear :=
  (View.readCov_skip _ _ _ _ _ (by decide +revert)).trans
    ((View.readCov_fill (View.whole cc0_scratch0) inb _ [] (Rect.unit ![1, 0, 0] ![1, 256, 256] inb') (by decide)).trans
      ((lds1 (t := .f32) (k0_pay3 : FVec Ideal S2x256x256 .f32) inb').trans (slice_clear 1)))

theorem newOut_0 (t : Fin cfg0.N) (st : Vec Ideal S1x256x256 .f32) : newOut m c t st 0 =
    k0_pay2 (RetBlock.mixed (lanes3 (iblk m c 0 t) 0) (lanes3 (iblk m c 1 t) 0) (lanes3 (iblk m c 2 t) 0) st (lanes2 (iblk m c 4 t) 0)
      (slice8 (iblk m c 6 t) 0) (slice8 (iblk m c 6 t) 1) (slice8 (iblk m c 6 t) 2) (slice8 (iblk m c 6 t) 3))
    (iblk m c 9 t) (lanes1 (iblk m c 10 t) 0) (lanes3 (iblk m c 3 t) 0) := rfl

theorem newOut_1 (t : Fin cfg0.N) (st : Vec Ideal S1x256x256 .f32) : newOut m c t st 1 =
    k0_pay2 (RetBlock.mixed (lanes3 (iblk m c 0 t) 1) (lanes3 (iblk m c 1 t) 1) (lanes3 (iblk m c 2 t) 1) st (lanes2 (iblk m c 4 t) 1)
      (slice8 (iblk m c 6 t) 4) (slice8 (iblk m c 6 t) 5) (slice8 (iblk m c 6 t) 6) (slice8 (iblk m c 6 t) 7))
    (iblk m c 9 t) (lanes1 (iblk m c 10 t) 1) (lanes3 (iblk m c 3 t) 1) := rfl

theorem out_first (t : Fin cfg0.N) (h0 : t.val % 16 = 0) (g : Fin 2) (r e : Fin 256) :
    (outsAt0 m c t.val t.isLt).1 (ix3 0 r (wide g e)) = newOut m c t clear g (ix3 0 r e) := by
  rw [outsAt0_A m c t h0]
  frame_out
  refine (out_split _ _ _ _ g r e).trans ?_
  rw [fill1, fill0]
  simp only [ld3_0, ld3_1, ld2_0, ld2_1, ld1_0, ld1_1, ld8_0, ld8_1, ld8_2, ld8_3, ld8_4, ld8_5, ld8_6, ld8_7]
  obtain rfl | rfl := two g
  · rw [if_pos rfl, newOut_0]
    exact congrFun (RetBlock.normed_first _ _ _ _ _ _ _ _ _ _) _
  · rw [if_neg (by decide), newOut_1]
    exact congrFun (congrArg (fun o => k0_pay2 o _ _ _) (RetBlock.mixed_second _ _ _ _ _ _ _ _ _)) _

theorem out_later (t : Fin cfg0.N) (h0 : ¬ t.val % 16 = 0) (g : Fin 2) (r e : Fin 256) :
    (outsAt0 m c t.val t.isLt).1 (ix3 0 r (wide g e))
      = newOut m c t (slice2 (outsAt0 m c (t.val - 1) (by omega)).2 g) g (ix3 0 r e) := by
  rw [outsAt0_B m c t h0]
  frame_out
  refine (out_split _ _ _ _ g r e).trans ?_
  rw [read_unread_whole]
  simp only [ld3_0, ld3_1, ld2_0, ld2_1, ld1_0, ld1_1, lds0, lds1, ld8_0, ld8_1, ld8_2, ld8_3, ld8_4, ld8_5, ld8_6, ld8_7]
  obtain rfl | rfl := two g
  · rw [if_pos rfl, newOut_0]
    exact congrFun (RetBlock.normed_first _ _ _ _ _ _ _ _ _ _) _
  · rw [if_neg (by decide), newOut_1]
    exact congrFun (congrArg (fun o => k0_pay2 o _ _ _) (RetBlock.mixed_second _ _ _ _ _ _ _ _ _)) _

theorem state_first (t : Fin cfg0.N) (h0 : t.val % 16 = 0) (g : Fin 2) (d e : Fin 256) :
    (outsAt0 m c t.val t.isLt).2 (ix3 g d e) = newState m c t clear g (ix3 0 d e) := by
  rw [outsAt0_A m c t h0]
  frame_out
  refine (state_split _ _ _ _ _ g d e).trans ?_
  rw [fill1, fill0]
  simp only [ld3_0, ld3_1, ld2_0, ld2_1, ld1_0, ld1_1]
  obtain rfl | rfl := two g
  · rw [if_pos rfl, newState]
  · rw [if_neg (by decide), newState]
    exact congrFun (RetBlock.state_second _ _ _ _ _ _) _

theorem state_later (t : Fin cfg0.N) (h0 : ¬ t.val % 16 = 0) (g : Fin 2) (d e : Fin 256) :
    (outsAt0 m c t.val t.isLt).2 (ix3 g d e)
      = newState m c t (slice2 (outsAt0 m c (t.val - 1) (by omega)).2 g) g (ix3 0 d e) := by
  rw [outsAt0_B m c t h0]
  frame_out
  refine (state_split _ _ _ _ _ g d e).trans ?_
  rw [read_unread_whole]
  simp only [ld3_0, ld3_1, ld2_0, ld2_1, ld1_0, ld1_1, lds0, lds1]
  obtain rfl | rfl := two g
  · rw [if_pos rfl, newState]
  · rw [if_neg (by decide), newState]
    exact congrFun (RetBlock.state_second _ _ _ _ _ _) _

end Cert.Proof.RetPoint

end
-- ==== Proof.RetDecay.lean ====
/-
  THE DECAYS OF THE RETENTION as extended reals: the logarithm of each head's decay is a real number, so every table made
  from it is a table of reals.
-/
module

public import Idealize.ShloMosaic.PureOps.Ideal
public import Idealize.ShloMosaic.Lib.IdealHost
public import Idealize.ShloMosaic.Lib.Pointwise

@[expose] public section

noncomputable section

namespace Cert.Proof.RetDecay

open Idealize.ShloMosaic

/-- The logarithm of head `h`'s decay, `log (1 - exp (ln 2 · (-5 - h)))`, as both programs compute it. -/
def lgE (h : Fin 8) : EReal :=
  Ideal.log (1 - Ideal.exp (Ideal.ofBits .f32 0x3F317218#32 * (Ideal.ofBits .f32 0xC0A00000#32 - ((h.val : ℝ) : EReal))))

/-- The same logarithm as a real number. -/
def lg (h : Fin 8) : ℝ := (lgE h).toReal

theorem five : Ideal.ofBits .f32 0xC0A00000#32 = ((-5 : ℝ) : EReal) := by
  simp [Ideal.ofBits, Ideal.ieee, -EReal.coe_mul, -EReal.coe_neg]; norm_num

theorem ln_two : Ideal.ofBits .f32 0x3F317218#32 = ((11629080 / 16777216 : ℝ) : EReal) := by
  simp [Ideal.ofBits, Ideal.ieee, -EReal.coe_mul, -EReal.coe_neg]; norm_num

/-- The decay is a positive real below one, so its logarithm is a real. -/
theorem lgE_eq (h : Fin 8) : lgE h = (lg h : EReal) := by
  have : ∃ r : ℝ, lgE h = (r : EReal) := by
    unfold lgE
    rw [ln_two, five, ← EReal.coe_sub, ← EReal.coe_mul, Ideal.exp_coe, show (1 : EReal) = ((1 : ℝ) : EReal) by norm_cast, ← EReal.coe_sub,
      Ideal.log_coe]
    have hx : Real.exp (11629080 / 16777216 * (-5 - (h.val : ℝ))) < 1 := by
      rw [Real.exp_lt_one_iff]
      have : (0 : ℝ) ≤ h.val := Nat.cast_nonneg _
      nlinarith
    rw [if_neg (by linarith)]
    exact ⟨_, rfl⟩
  obtain ⟨r, hr⟩ := this
  rw [lg, hr, EReal.toReal_coe]

/-- The float of a small natural number. -/
theorem float_nat (n : ℕ) (h : n < 2147483648) : (FloatOps.sitofp .f32 (BitVec.ofNat 32 n) : Ideal .f32) = ((n : ℝ) : EReal) := by
  show (((BitVec.ofNat 32 n).toInt : ℝ) : EReal) = _
  rw [show (BitVec.ofNat 32 n).toInt = (n : ℤ) by
    rw [BitVec.toInt_eq_toNat_of_lt (by rw [BitVec.toNat_ofNat]; omega), BitVec.toNat_ofNat]; congr 1; omega]
  norm_cast

/-- The decay over the distance from `s` to `t`, zero when `s` is after `t`. -/
theorem decay_eq (h : Fin 8) (t s : ℕ) :
    (if (0 : EReal) ≤ ((t : ℝ) : EReal) - ((s : ℝ) : EReal) then
        Ideal.exp (lgE h * max (((t : ℝ) : EReal) - ((s : ℝ) : EReal)) 0) else 0)
      = ((if s ≤ t then Real.exp (lg h * ((t : ℝ) - s)) else 0 : ℝ) : EReal) := by
  rw [← EReal.coe_sub, lgE_eq]
  by_cases c : s ≤ t
  · have c' : (0 : ℝ) ≤ (t : ℝ) - s := by have : (s : ℝ) ≤ t := by exact_mod_cast c
                                          linarith
    rw [if_pos (by exact_mod_cast c'), if_pos c, max_eq_left (by exact_mod_cast c'), ← EReal.coe_mul, Ideal.exp_coe]
  · have c' : ¬ (0 : ℝ) ≤ (t : ℝ) - s := by have : (t : ℝ) < s := by exact_mod_cast not_le.1 c
                                            linarith
    rw [if_neg (by exact_mod_cast c'), if_neg c]; rfl

end Cert.Proof.RetDecay

end
-- ==== Proof.RetTables.lean ====
/-
  THE TABLES the host prepares for the retention, read at an index: powers of each head's decay, and the mark of which lanes
  share a head.
-/
module

public import proofs.«01_k».proof.Proof.Gen.KernelIdeal.Value
public import proofs.«01_k».proof.Proof.RetDecay
public import Idealize.ShloMosaic.Lib.Pipeline.ValueKit
public import Idealize.ShloMosaic.Lib.Pointwise
public import Idealize.ShloMosaic.Lib.StableHlo.ReadAt

@[expose] public section

noncomputable section

namespace Cert.Proof.RetTables

open Idealize.ShloMosaic Idealize.ShloMosaic.TcCoe Cert.KernelIdeal Cert.KernelIdeal.Gen Cert.Proof
open scoped BigOperators

variable (m : (ℓ : Loc nD τ sig) → Buf (Elt Ideal) ℓ) (c : Dev nD)

/-- Lane `d` of head `h`. -/
abbrev at64 (h : Fin 8) (d : Fin 64) : Fin 512 := ⟨h.val * 64 + d.val, by omega⟩

theorem c255 : Ideal.ofBits .f32 0x437F0000#32 = ((255 : ℝ) : EReal) := by
  simp [Ideal.ofBits, Ideal.ieee, -EReal.coe_mul, -EReal.coe_neg]; norm_num

theorem c256 : Ideal.ofBits .f32 0x43800000#32 = ((256 : ℝ) : EReal) := by
  simp [Ideal.ofBits, Ideal.ieee, -EReal.coe_mul, -EReal.coe_neg]; norm_num

theorem zero_word : (Ideal.ofBits .f32 0x00000000#32 : EReal) = 0 := by
  simp [Ideal.ofBits, Ideal.ieee, -EReal.coe_mul, -EReal.coe_neg]

theorem one_coe : (1 : EReal) = ((1 : ℝ) : EReal) := by norm_cast

/-- The head of a lane. -/
theorem head_of (h : Fin 8) (d : Fin 64) : (h.val * 64 + d.val) / 64 = h.val := by omega

/-- The logarithm of a head's decay as the host writes it. -/
theorem log_decay (h : Fin 8) :
    Ideal.log (1 - Ideal.exp (Ideal.ofBits .f32 1060205080#32 * (Ideal.ofBits .f32 3231711232#32
      - (FloatOps.sitofp .f32 (BitVec.ofNat 32 h.val) : Ideal .f32)))) = ((RetDecay.lg h : ℝ) : EReal) := by
  rw [← RetDecay.lgE_eq]
  unfold RetDecay.lgE
  rw [RetDecay.float_nat h.val (by omega)]

theorem qdec (r : Fin 256) (h : Fin 8) (d : Fin 64) :
    (V m c main_v39 (ix2 r (at64 h d)) : EReal) = ((Real.exp (RetDecay.lg h * ((r : ℕ) + 1)) : ℝ) : EReal) := by
  unfold V
  after_reads_at
  rw [head_of, log_decay, RetDecay.float_nat r.val (by omega), one_coe, ← EReal.coe_add, ← EReal.coe_mul, Ideal.exp_coe]

theorem kdec (r : Fin 256) (h : Fin 8) (d : Fin 64) :
    (V m c main_v49 (ix2 r (at64 h d)) : EReal) = ((Real.exp (RetDecay.lg h * (255 - (r : ℕ))) : ℝ) : EReal) := by
  unfold V
  after_reads_at
  rw [head_of, log_decay, RetDecay.float_nat r.val (by omega), c255, ← EReal.coe_sub, ← EReal.coe_mul, Ideal.exp_coe]

theorem cdec (h : Fin 8) (d : Fin 64) :
    (V m c main_v55 (ix2 0 (at64 h d)) : EReal) = ((Real.exp (RetDecay.lg h * 256) : ℝ) : EReal) := by
  unfold V
  after_reads_at
  rw [head_of, log_decay, c256, ← EReal.coe_mul, Ideal.exp_coe]

theorem dmat (h : Fin 8) (r s : Fin 256) :
    (V m c main_v71 (ix3 h r s) : EReal)
      = ((if s.val ≤ r.val then Real.exp (RetDecay.lg h * ((r : ℕ) - (s : ℕ))) else 0 : ℝ) : EReal) := by
  unfold V
  after_reads_at
  rw [show (id (constant S_ FTy.f32 0#32) ix0 : Ideal .f32) = (0 : EReal) from zero_word, log_decay, RetDecay.float_nat r.val (by omega),
    RetDecay.float_nat s.val (by omega), ← RetDecay.lgE_eq]
  exact RetDecay.decay_eq h r.val s.val

/-- Two lanes share a head when their quotients by 64 agree. -/
theorem same_head (d e : Fin 256) :
    IntOp.cmpi .eq (IntOp.divsi .host (BitVec.ofNat 32 d.val) 64#32) (IntOp.divsi .host (BitVec.ofNat 32 e.val) 64#32)
      = if d.val / 64 = e.val / 64 then 1#1 else 0#1 := by
  have hq : ∀ x : Fin 256, IntOp.divsi .host (BitVec.ofNat 32 x.val) 64#32 = BitVec.ofNat 32 (x.val / 64) := by decide +kernel
  rw [hq, hq]
  have hd : d.val / 64 < 4 := by omega
  have he : e.val / 64 < 4 := by omega
  generalize d.val / 64 = x at *
  generalize e.val / 64 = y at *
  interval_cases x <;> interval_cases y <;> rfl

theorem bd (d e : Fin 256) :
    (V m c main_v19 (ix2 d e) : EReal) = if d.val / 64 = e.val / 64 then (1 : EReal) else (0 : EReal) := by
  unfold V
  after_reads_at
  rw [id]
  pointwise
  rw [same_head]
  split_ifs <;> rfl

theorem ones (d e : Fin 256) :
    (V m c main_v9 (ix2 d e) : EReal) = if d.val / 64 = e.val / 64 then (1 : EReal) else (0 : EReal) := by
  unfold V
  after_reads_at
  rw [same_head]
  split_ifs <;> rfl

theorem gain (d : Fin 512) :
    (V m c main_v72 (ix2 0 d) : EReal) = m ((c : Thread nD τ).loc main_arg4) (ix1 d) := by
  unfold V
  after_reads_at

end Cert.Proof.RetTables

end
-- ==== Proof.RetState.lean ====
/-
  THE STATE CARRIED from chunk to chunk, and the retention of every position: after chunk `n` of a batch member the scratch
  holds, for every pair of lanes of one head, the state of `RetAlg.lean` after `n + 1` chunks, and nothing between heads.
-/
module

public import proofs.«01_k».proof.Proof.RetPoint
public import proofs.«01_k».proof.Proof.RetTables

@[expose] public section

noncomputable section

namespace Cert.Proof.RetState

open Idealize.ShloMosaic Idealize.ShloMosaic.TcCoe Cert.KernelIdeal Cert.KernelIdeal.Gen Cert.Proof
open Cert.Proof.RetPoint (wide headOf)
open Cert.Proof.RetBlock (lane)
open Cert.Proof.RetTables (at64)
open scoped BigOperators

variable (m : (ℓ : Loc nD τ sig) → Buf (Elt Ideal) ℓ) (c : Dev nD)

/-- Where each window stands at each point: the four arrays of positions and the result at (batch member, chunk), the tables
    whole. -/
theorem idx : ∀ t : Fin cfg0.N,
    win0_0.index t = ![t.val / 16, t.val % 16, 0] ∧ win0_1.index t = ![t.val / 16, t.val % 16, 0]
    ∧ win0_2.index t = ![t.val / 16, t.val % 16, 0] ∧ win0_3.index t = ![t.val / 16, t.val % 16, 0]
    ∧ win0_4.index t = ![0, 0] ∧ win0_5.index t = ![0, 0] ∧ win0_6.index t = ![0, 0, 0] ∧ win0_7.index t = ![0, 0]
    ∧ win0_8.index t = ![0, 0] ∧ win0_9.index t = ![0, 0] ∧ win0_10.index t = ![0, 0]
    ∧ win0_11.index t = ![t.val / 16, t.val % 16, 0] := by decide +kernel

/-- The batch member of a point. -/
abbrev bat (t : Fin cfg0.N) : Fin 8 := ⟨t.val / 16, by have h : t.val < 128 := t.isLt; omega⟩

/-- The position of row `r` of a point's chunk. -/
abbrev posn (t : Fin cfg0.N) (r : Fin 256) : Fin 4096 := ⟨256 * (t.val % 16) + r.val, by omega⟩

/-- The lane of the array that lane `d` of head `a` of group `g` is. -/
theorem lane_eq (g : Fin 2) (a : Fin 4) (d : Fin 64) : wide g (lane a d) = at64 (headOf g a) d := by
  refine Fin.ext ?_
  show 256 * g.val + (64 * a.val + d.val) = (4 * g.val + a.val) * 64 + d.val
  omega

theorem blk0 (t : Fin cfg0.N) (r : Fin 256) (e : Fin 512) :
    iblk m c 0 t (ix3 0 r e) = m ((c : Thread nD τ).loc main_arg0) (ix3 (bat t) (posn t r) e) := by
  obtain ⟨e0, e1, e2, e3, e4, e5, e6, e7, e8, e9, e10, e11⟩ := idx t
  blk_ext! [iblk, V, e0]
theorem blk1 (t : Fin cfg0.N) (r : Fin 256) (e : Fin 512) :
    iblk m c 1 t (ix3 0 r e) = m ((c : Thread nD τ).loc main_arg1) (ix3 (bat t) (posn t r) e) := by
  obtain ⟨e0, e1, e2, e3, e4, e5, e6, e7, e8, e9, e10, e11⟩ := idx t
  blk_ext! [iblk, V, e1]
theorem blk2 (t : Fin cfg0.N) (r : Fin 256) (e : Fin 512) :
    iblk m c 2 t (ix3 0 r e) = m ((c : Thread nD τ).loc main_arg2) (ix3 (bat t) (posn t r) e) := by
  obtain ⟨e0, e1, e2, e3, e4, e5, e6, e7, e8, e9, e10, e11⟩ := idx t
  blk_ext! [iblk, V, e2]
theorem blk3 (t : Fin cfg0.N) (r : Fin 256) (e : Fin 512) :
    iblk m c 3 t (ix3 0 r e) = m ((c : Thread nD τ).loc main_arg3) (ix3 (bat t) (posn t r) e) := by
  obtain ⟨e0, e1, e2, e3, e4, e5, e6, e7, e8, e9, e10, e11⟩ := idx t
  blk_ext! [iblk, V, e3]

theorem blk4 (t : Fin cfg0.N) (r : Fin 256) (h : Fin 8) (d : Fin 64) :
    (iblk m c 4 t (ix2 r (at64 h d)) : EReal) = ((Real.exp (RetDecay.lg h * ((r : ℕ) + 1)) : ℝ) : EReal) := by
  obtain ⟨e0, e1, e2, e3, e4, e5, e6, e7, e8, e9, e10, e11⟩ := idx t
  have he : (win0_4.blk t).view.emb (ix2 r (at64 h d)) = (ix2 r (at64 h d) : S256x512.Idx) := by blk_ext [e4]
  exact (congrArg (V m c main_v39) he).trans (RetTables.qdec m c r h d)
theorem blk5 (t : Fin cfg0.N) (r : Fin 256) (h : Fin 8) (d : Fin 64) :
    (iblk m c 5 t (ix2 r (at64 h d)) : EReal) = ((Real.exp (RetDecay.lg h * (255 - (r : ℕ))) : ℝ) : EReal) := by
  obtain ⟨e0, e1, e2, e3, e4, e5, e6, e7, e8, e9, e10, e11⟩ := idx t
  have he : (win0_5.blk t).view.emb (ix2 r (at64 h d)) = (ix2 r (at64 h d) : S256x512.Idx) := by blk_ext [e5]
  exact (congrArg (V m c main_v49) he).trans (RetTables.kdec m c r h d)
theorem blk6 (t : Fin cfg0.N) (h : Fin 8) (r s : Fin 256) :
    (iblk m c 6 t (ix3 h r s) : EReal)
      = ((if s.val ≤ r.val then Real.exp (RetDecay.lg h * ((r : ℕ) - (s : ℕ))) else 0 : ℝ) : EReal) := by
  obtain ⟨e0, e1, e2, e3, e4, e5, e6, e7, e8, e9, e10, e11⟩ := idx t
  have he : (win0_6.blk t).view.emb (ix3 h r s) = (ix3 h r s : S8x256x256.Idx) := by blk_ext [e6]
  show (V m c main_v71 ((win0_6.blk t).view.emb (ix3 h r s)) : EReal) = _
  rw [he]
  exact RetTables.dmat m c h r s
theorem blk7 (t : Fin cfg0.N) (h : Fin 8) (d : Fin 64) :
    (iblk m c 7 t (ix2 0 (at64 h d)) : EReal) = ((Real.exp (RetDecay.lg h * 256) : ℝ) : EReal) := by
  obtain ⟨e0, e1, e2, e3, e4, e5, e6, e7, e8, e9, e10, e11⟩ := idx t
  have he : (win0_7.blk t).view.emb (ix2 0 (at64 h d)) = (ix2 0 (at64 h d) : S1x512.Idx) := by blk_ext [e7]
  exact (congrArg (V m c main_v55) he).trans (RetTables.cdec m c h d)
theorem blk8 (t : Fin cfg0.N) (d e : Fin 256) :
    (iblk m c 8 t (ix2 d e) : EReal) = if d.val / 64 = e.val / 64 then (1 : EReal) else (0 : EReal) := by
  obtain ⟨e0, e1, e2, e3, e4, e5, e6, e7, e8, e9, e10, e11⟩ := idx t
  have he : (win0_8.blk t).view.emb (ix2 d e) = (ix2 d e : S256x256.Idx) := by blk_ext [e8]
  exact (congrArg (V m c main_v19) he).trans (RetTables.bd m c d e)
theorem blk9 (t : Fin cfg0.N) (d e : Fin 256) :
    (iblk m c 9 t (ix2 d e) : EReal) = if d.val / 64 = e.val / 64 then (1 : EReal) else (0 : EReal) := by
  obtain ⟨e0, e1, e2, e3, e4, e5, e6, e7, e8, e9, e10, e11⟩ := idx t
  have he : (win0_9.blk t).view.emb (ix2 d e) = (ix2 d e : S256x256.Idx) := by blk_ext [e9]
  exact (congrArg (V m c main_v9) he).trans (RetTables.ones m c d e)
theorem blk10 (t : Fin cfg0.N) (d : Fin 512) :
    (iblk m c 10 t (ix2 0 d) : EReal) = m ((c : Thread nD τ).loc main_arg4) (ix1 d) := by
  obtain ⟨e0, e1, e2, e3, e4, e5, e6, e7, e8, e9, e10, e11⟩ := idx t
  have he : (win0_10.blk t).view.emb (ix2 0 d) = (ix2 0 d : S1x512.Idx) := by blk_ext [e10]
  exact (congrArg (V m c main_v72) he).trans (RetTables.gain m c d)

/-! ### The real arrays -/

/-- One lane of an array of reals, by position. -/
def col (X : S8x4096x512.Idx → ℝ) (b : Fin 8) (h : Fin 8) (d : Fin 64) (s : ℕ) : ℝ :=
  if hs : s < 4096 then X (ix3 b ⟨s, hs⟩ (at64 h d)) else 0

theorem col_posn (X : S8x4096x512.Idx → ℝ) (t : Fin cfg0.N) (h : Fin 8) (d : Fin 64) (r : Fin 256) :
    X (ix3 (bat t) (posn t r) (at64 h d)) = col X (bat t) h d (256 * (t.val % 16) + r.val) := by
  rw [col, dif_pos (by omega)]

variable (qr kr vr : S8x4096x512.Idx → ℝ)
variable (hq : ∀ i, m ((c : Thread nD τ).loc main_arg0) i = ((qr i : ℝ) : EReal))
variable (hk : ∀ i, m ((c : Thread nD τ).loc main_arg1) i = ((kr i : ℝ) : EReal))
variable (hv : ∀ i, m ((c : Thread nD τ).loc main_arg2) i = ((vr i : ℝ) : EReal))

/-- The state of one head after `n` chunks of batch member `b`, as the scratch should hold it. -/
def good (b : Fin 8) (n : ℕ) (g : Fin 2) (st : Vec Ideal S1x256x256 .f32) : Prop :=
  ∀ (a a' : Fin 4) (d e : Fin 64), (st (ix3 0 (lane a d) (lane a' e)) : EReal)
    = if a = a' then ((RetAlg.state (RetDecay.lg (headOf g a)) (col kr b (headOf g a) d) (col vr b (headOf g a) e) n : ℝ) : EReal) else (0 : EReal)

theorem lane_div (a : Fin 4) (d : Fin 64) : (lane a d).val / 64 = a.val := by
  show (64 * a.val + d.val) / 64 = a.val
  omega

include hk hv in
/-- One point takes the state after `n` chunks to the state after `n + 1`. -/
theorem step (t : Fin cfg0.N) (g : Fin 2) (st : Vec Ideal S1x256x256 .f32) (h : good kr vr (bat t) (t.val % 16) g st) :
    good kr vr (bat t) (t.val % 16 + 1) g (RetPoint.newState m c t st g) := by
  intro a a' d e
  unfold RetPoint.newState
  rw [RetBlock.state_apply]
  have hs : k0_pay7 st (ix2 (lane a d) (lane a' e)) = st (ix3 0 (lane a d) (lane a' e)) := by pointwise [k0_pay7]
  have hkk : ∀ j : Fin 256, (k0_pay5 (RetPoint.lanes3 (iblk m c 1 t) g) (ix2 j (lane a d)) : EReal)
      = ((col kr (bat t) (headOf g a) d (256 * (t.val % 16) + j.val) : ℝ) : EReal) := by
    intro j
    have : k0_pay5 (RetPoint.lanes3 (iblk m c 1 t) g) (ix2 j (lane a d)) = iblk m c 1 t (ix3 0 j (wide g (lane a d))) := by
      pointwise [k0_pay5, RetPoint.lanes3]
    rw [this, lane_eq, blk1, hk, col_posn kr]
  have hvv : ∀ j : Fin 256, (k0_pay6 (RetPoint.lanes3 (iblk m c 2 t) g) (ix2 j (lane a' e)) : EReal)
      = ((col vr (bat t) (headOf g a') e (256 * (t.val % 16) + j.val) : ℝ) : EReal) := by
    intro j
    have : k0_pay6 (RetPoint.lanes3 (iblk m c 2 t) g) (ix2 j (lane a' e)) = iblk m c 2 t (ix3 0 j (wide g (lane a' e))) := by
      pointwise [k0_pay6, RetPoint.lanes3]
    rw [this, lane_eq, blk2, hv, col_posn vr]
  have hkd : ∀ j : Fin 256, (RetPoint.lanes2 (iblk m c 5 t) g (ix2 j (lane a d)) : EReal)
      = ((Real.exp (RetDecay.lg (headOf g a) * (255 - (j : ℕ))) : ℝ) : EReal) := by
    intro j
    show (iblk m c 5 t (ix2 j (wide g (lane a d))) : EReal) = _
    rw [lane_eq, blk5]
  have hcd : (RetPoint.lanes1 (iblk m c 7 t) g (ix2 0 (lane a' e)) : EReal) = ((Real.exp (RetDecay.lg (headOf g a') * 256) : ℝ) : EReal) := by
    show (iblk m c 7 t (ix2 0 (wide g (lane a' e))) : EReal) = _
    rw [lane_eq, blk7]
  rw [hs, h a a' d e, hcd, blk8, lane_div, lane_div]
  simp only [hkk, hvv, hkd]
  by_cases ha : a = a'
  · subst ha
    rw [if_pos rfl, if_pos rfl, if_pos rfl, RetAlg.state_succ, mul_one, EReal.coe_add, EReal.coe_mul, RetAlg.coe_sum]
    simp only [EReal.coe_mul]
  · have ha' : a.val ≠ a'.val := fun h => ha (Fin.ext h)
    rw [if_neg ha, if_neg ha', if_neg ha, zero_mul, mul_zero, add_zero]

theorem good_clear (b : Fin 8) (g : Fin 2) : good kr vr b 0 g RetPoint.clear := by
  intro a a' d e
  rw [RetAlg.state_zero]
  show (Ideal.ofBits .f32 0x00000000#32 : EReal) = _
  rw [RetTables.zero_word]
  split_ifs <;> rfl

/-- The state a point finds. -/
def found (t : Fin cfg0.N) (g : Fin 2) : Vec Ideal S1x256x256 .f32 :=
  if t.val % 16 = 0 then RetPoint.clear else RetPoint.slice2 (outsAt0 m c (t.val - 1) (by have := t.isLt; omega)).2 g

theorem state_eq (t : Fin cfg0.N) (g : Fin 2) : RetPoint.slice2 (outsAt0 m c t.val t.isLt).2 g = RetPoint.newState m c t (found m c t g) g := by
  funext i
  obtain ⟨z, d, e, rfl⟩ : ∃ (z : Fin 1) (d e : Fin 256), i = ix3 z d e := ⟨i 0, i 1, i 2, eq_ix3 i⟩
  obtain rfl : z = 0 := Subsingleton.elim _ _
  show (outsAt0 m c t.val t.isLt).2 (ix3 g d e) = _
  unfold found
  split_ifs with h0
  · exact RetPoint.state_first m c t h0 g d e
  · exact RetPoint.state_later m c t h0 g d e

theorem out_eq (t : Fin cfg0.N) (g : Fin 2) (r e : Fin 256) :
    (outsAt0 m c t.val t.isLt).1 (ix3 0 r (wide g e)) = RetPoint.newOut m c t (found m c t g) g (ix3 0 r e) := by
  unfold found
  split_ifs with h0
  · exact RetPoint.out_first m c t h0 g r e
  · exact RetPoint.out_later m c t h0 g r e

include hk hv in
theorem found_good : ∀ (n : ℕ) (hn : n < cfg0.N) (g : Fin 2), good kr vr (bat ⟨n, hn⟩) (n % 16) g (found m c ⟨n, hn⟩ g) := by
  intro n
  induction n with
  | zero => intro hn g; exact good_clear kr vr _ g
  | succ n ih =>
    intro hn g
    by_cases h0 : (n + 1) % 16 = 0
    · have : found m c ⟨n + 1, hn⟩ g = RetPoint.clear := if_pos h0
      rw [this, h0]
      exact good_clear kr vr _ g
    · have hf : found m c ⟨n + 1, hn⟩ g = RetPoint.slice2 (outsAt0 m c n (by omega)).2 g := if_neg h0
      have hb : bat ⟨n + 1, hn⟩ = bat ⟨n, by omega⟩ := Fin.ext (by show (n + 1) / 16 = n / 16; omega)
      have hm : (n + 1) % 16 = n % 16 + 1 := by omega
      rw [hf, hb, hm, state_eq m c ⟨n, by omega⟩ g]
      exact step m c kr vr hk hv ⟨n, by omega⟩ g _ (ih (by omega) g)

end Cert.Proof.RetState

end
-- ==== Proof.RetRef.lean ====
/-
  WHAT THE RETENTION'S REFERENCE COMPUTES: its composed term, read at a position, a head and a lane.
-/
module

public import proofs.«01_k».proof.Proof.Gen.ReferenceIdeal.Run
public import proofs.«01_k».proof.Proof.RetAlg
public import proofs.«01_k».proof.Proof.RetDecay
public import Idealize.ShloMosaic.Lib.Pointwise

@[expose] public section

set_option maxRecDepth 16384

noncomputable section

namespace Cert.Proof.RetRef

open Idealize.ShloMosaic Idealize.ShloMosaic.TcCoe Cert.ReferenceIdeal Cert.ReferenceIdeal.Gen Cert.Proof
open scoped BigOperators

/-- The positions as floats. -/
def pos : FVec Ideal S4096 .f32 := sitofp .f32 (iotaInDim S4096 32 0)

/-- The distance from position to position. -/
def rel : FVec Ideal S4096x4096 .f32 :=
  subf (broadcastInDim S4096x4096 ![0, 1] bcast_S4096x1_S4096x4096_0_1 (broadcastInDim S4096x1 ![0] bcast_S4096_S4096x1_0 pos))
    (broadcastInDim S4096x4096 ![0, 1] bcast_S1x4096_S4096x4096_0_1 (broadcastInDim S1x4096 ![1] bcast_S4096_S1x4096_1 pos))

/-- The logarithm of each head's decay. -/
def logs : FVec Ideal S8 .f32 :=
  Host.log (subf (broadcastInDim S8 ![] bcast_S_S8 (constant S_ .f32 0x3F800000#32))
    (Host.exp (mulf (broadcastInDim S8 ![] bcast_S_S8 (constant S_ .f32 0x3F317218#32))
      (subf (broadcastInDim S8 ![] bcast_S_S8 (constant S_ .f32 0xC0A00000#32)) (sitofp .f32 (iotaInDim S8 32 0))))))

/-- The decay of every head from position to position. -/
def decay : FVec Ideal S8x4096x4096 .f32 :=
  select (broadcastInDim S8x4096x4096 ![1, 2] bcast_S4096x4096_S8x4096x4096_1_2
      (cmpf .oge rel (broadcastInDim S4096x4096 ![] bcast_S_S4096x4096 (constant S_ .f32 0x00000000#32))))
    (Host.exp (mulf (broadcastInDim S8x4096x4096 ![0, 1, 2] bcast_S8x1x1_S8x4096x4096_0_1_2 (broadcastInDim S8x1x1 ![0] bcast_S8_S8x1x1_0 logs))
      (broadcastInDim S8x4096x4096 ![0, 1, 2] bcast_S1x4096x4096_S8x4096x4096_0_1_2 (broadcastInDim S1x4096x4096 ![1, 2] bcast_S4096x4096_S1x4096x4096_1_2
        (maximumf rel (broadcastInDim S4096x4096 ![] bcast_S_S4096x4096 (constant S_ .f32 0x00000000#32)))))))
    (broadcastInDim S8x4096x4096 ![] bcast_S_S8x4096x4096 (id (constant S_ .f32 0x00000000#32)))

/-- An argument, head by head. -/
def heads (x : FVec Ideal S8x4096x512 .bf16) : FVec Ideal S8x8x4096x64 .f32 :=
  transpose S8x8x4096x64 [0, 2, 1, 3] (shapeCast _ (extf .f32 x bitsLt_bf16_f32) shapeCasts_S8x4096x512_S8x4096x8x64)
    transposes_S8x4096x8x64_S8x8x4096x64_0_2_1_3

/-- The retention, head by head. -/
def ret (q k v : FVec Ideal S8x4096x512 .bf16) : FVec Ideal S8x4096x8x64 .f32 :=
  shapeCast _ (shapeCast _ (transpose S8x4096x8x64 [0, 2, 1, 3]
    (Host.dotGeneral dot_S8x8x4096x4096_S8x8x4096x64_S8x8x4096x64_3_2_2_3_01_01 none
      (mulf (Host.dotGeneral dot_S8x8x4096x64_S8x8x4096x64_S8x8x4096x4096_3_3_2_2_01_01 none (heads q) (heads k))
        (broadcastInDim S8x8x4096x4096 ![0, 1, 2, 3] bcast_S1x8x4096x4096_S8x8x4096x4096_0_1_2_3
          (broadcastInDim S1x8x4096x4096 ![1, 2, 3] bcast_S8x4096x4096_S1x8x4096x4096_1_2_3 decay)))
      (heads v)) transposes_S8x8x4096x64_S8x4096x8x64_0_2_1_3) shapeCasts_S8x4096x8x64_S8x4096x512) shapeCasts_S8x4096x512_S8x4096x8x64

theorem logs_apply (h : Fin 8) : logs (ix1 h) = RetDecay.lgE h := by
  pointwise [logs, RetDecay.lgE]
  rw [RetDecay.float_nat _ (by omega)]

/-- The decay from `s` to `t`, a real number. -/
theorem decay_apply (h : Fin 8) (t s : Fin 4096) :
    decay (ix3 h t s) = ((if s.val ≤ t.val then Real.exp (RetDecay.lg h * ((t.val : ℝ) - s.val)) else 0 : ℝ) : EReal) := by
  pointwise [decay, rel, pos]
  rw [RetDecay.float_nat _ (by omega), RetDecay.float_nat _ (by omega), logs_apply, ← RetDecay.decay_eq]
  simp only [id]
  pointwise

theorem heads_apply (x : FVec Ideal S8x4096x512 .bf16) (b h : Fin 8) (t : Fin 4096) (d : Fin 64) :
    heads x (ix4 b h t d) = x (ix3 b t ⟨h.val * 64 + d.val, by omega⟩) := by
  pointwise [heads]

theorem ret_apply (q k v : FVec Ideal S8x4096x512 .bf16) (b h : Fin 8) (t : Fin 4096) (e : Fin 64) :
    ret q k v (ix4 b t h e)
      = ∑ s : Fin 4096, (∑ d : Fin 64, q (ix3 b t ⟨h.val * 64 + d.val, by omega⟩) * k (ix3 b s ⟨h.val * 64 + d.val, by omega⟩))
          * ((if s.val ≤ t.val then Real.exp (RetDecay.lg h * ((t.val : ℝ) - s.val)) else 0 : ℝ) : EReal)
          * v (ix3 b s ⟨h.val * 64 + e.val, by omega⟩) := by
  pointwise [ret, dot_S8x8x4096x4096_S8x8x4096x64_S8x8x4096x64_3_2_2_3_01_01, dot_S8x8x4096x64_S8x8x4096x64_S8x8x4096x4096_3_3_2_2_01_01]
  simp only [heads_apply, decay_apply]

/-- The norm and the gate, as the reference writes them. -/
def gated (o : FVec Ideal S8x4096x8x64 .f32) (sg : FVec Ideal S8x4096x512 .bf16) (g : FVec Ideal S512 .f32) : FVec Ideal S8x4096x512 .bf16 :=
  truncf .bf16 (mulf (extf .f32 sg bitsLt_bf16_f32) (shapeCast _ (mulf (mulf o
    (broadcastInDim S8x4096x8x64 ![0, 1, 2, 3] bcast_S8x4096x8x1_S8x4096x8x64_0_1_2_3 (Host.rsqrt (addf (Host.divf
      (broadcastInDim S8x4096x8x1 ![0, 1, 2] bcast_S8x4096x8_S8x4096x8x1_0_1_2
        (Host.reduceAdd (mulf o o) (constant S_ .f32 0x00000000#32) reducesTo_S8x4096x8x64_S8x4096x8_d3 h_S_))
      (broadcastInDim S8x4096x8x1 ![] bcast_S_S8x4096x8x1 (constant S_ .f32 0x42800000#32)))
      (broadcastInDim S8x4096x8x1 ![] bcast_S_S8x4096x8x1 (constant S_ .f32 0x358637BD#32))))))
    (broadcastInDim S8x4096x8x64 ![0, 1, 2, 3] bcast_S1x1x8x64_S8x4096x8x64_0_1_2_3
      (broadcastInDim S1x1x8x64 ![2, 3] bcast_S8x64_S1x1x8x64_2_3 (shapeCast _ g shapeCasts_S512_S8x64))))
    shapeCasts_S8x4096x8x64_S8x4096x512)) bitsLt_bf16_f32

theorem gated_apply (o : FVec Ideal S8x4096x8x64 .f32) (sg : FVec Ideal S8x4096x512 .bf16) (g : FVec Ideal S512 .f32)
    (b : Fin 8) (t : Fin 4096) (h : Fin 8) (e : Fin 64) :
    gated o sg g (ix3 b t ⟨h.val * 64 + e.val, by omega⟩)
      = sg (ix3 b t ⟨h.val * 64 + e.val, by omega⟩)
        * (o (ix4 b t h e) * Ideal.rsqrt (Ideal.div (∑ x : Fin 64, o (ix4 b t h x) * o (ix4 b t h x)) (Ideal.ofBits .f32 0x42800000#32)
            + Ideal.ofBits .f32 0x358637BD#32) * g (ix1 ⟨h.val * 64 + e.val, by omega⟩)) := by
  pointwise [gated]

theorem res_eq (m : (ℓ : Loc nD τ sig) → Buf (Elt Ideal) ℓ) (c : Dev nD) :
    Value.res_out0 m c = gated (ret (m ((c : Thread nD τ).loc main_arg0)) (m ((c : Thread nD τ).loc main_arg1)) (m ((c : Thread nD τ).loc main_arg2)))
      (m ((c : Thread nD τ).loc main_arg3)) (m ((c : Thread nD τ).loc main_arg4)) := rfl

end Cert.Proof.RetRef

end
-- ==== Proof.RetOut.lean ====
/-
  THE RETENTION'S RESULT at a position: what the kernel stores there is the closed form of `RetAlg.lean`, normed and gated,
  and so is what the reference computes.
-/
module

public import proofs.«01_k».proof.Proof.RetState
public import proofs.«01_k».proof.Proof.RetRef

@[expose] public section

noncomputable section

namespace Cert.Proof.RetOut

open Idealize.ShloMosaic Idealize.ShloMosaic.TcCoe Cert.KernelIdeal Cert.KernelIdeal.Gen Cert.Proof
open Cert.Proof.RetPoint (wide headOf)
open Cert.Proof.RetBlock (lane)
open Cert.Proof.RetTables (at64)
open Cert.Proof.RetState (bat posn col lane_eq lane_div)
open scoped BigOperators

/-- The closed form at a position of an array of reals. -/
def mix (qr kr vr : S8x4096x512.Idx → ℝ) (b : Fin 8) (h : Fin 8) (t : Fin 4096) (e : Fin 64) : ℝ :=
  RetAlg.out (RetDecay.lg h) (fun d => qr (ix3 b t (at64 h d))) (fun s d => col kr b h d s) (col vr b h e) t.val

/-- The result at a position. -/
def result (qr kr vr : S8x4096x512.Idx → ℝ) (sg : FVec Ideal S8x4096x512 .bf16) (g : FVec Ideal S512 .f32) (b : Fin 8) (h : Fin 8) (t : Fin 4096)
    (e : Fin 64) : EReal :=
  sg (ix3 b t (at64 h e))
    * ((mix qr kr vr b h t e : EReal) * Ideal.rsqrt (Ideal.div (∑ x : Fin 64, (mix qr kr vr b h t x : EReal) * (mix qr kr vr b h t x : EReal)) (Ideal.ofBits .f32 0x42800000#32)
        + Ideal.ofBits .f32 0x358637BD#32) * g (ix1 (at64 h e)))

/-- The reference's retention of real arrays. -/
theorem ref_mix (q k v : FVec Ideal S8x4096x512 .bf16) (qr kr vr : S8x4096x512.Idx → ℝ) (hq : ∀ i, q i = ((qr i : ℝ) : EReal))
    (hk : ∀ i, k i = ((kr i : ℝ) : EReal)) (hv : ∀ i, v i = ((vr i : ℝ) : EReal)) (b h : Fin 8) (t : Fin 4096) (e : Fin 64) :
    RetRef.ret q k v (ix4 b t h e) = ((mix qr kr vr b h t e : ℝ) : EReal) := by
  have hc : ∀ (X : S8x4096x512.Idx → ℝ) (s : Fin 4096) (d : Fin 64), col X b h d s.val = X (ix3 b s (at64 h d)) := fun X s d => dif_pos s.isLt
  rw [RetRef.ret_apply, mix, ← RetAlg.out_all, RetAlg.coe_sum]
  refine Finset.sum_congr rfl fun s _ => ?_
  rw [EReal.coe_mul, EReal.coe_mul, RetAlg.coe_sum, hv, hc]
  refine congrArg₂ (· * ·) (congrArg₂ (· * ·) (Finset.sum_congr rfl fun d _ => ?_) rfl) rfl
  rw [hq, hk, EReal.coe_mul, hc]

theorem ref_result (q k v sg : FVec Ideal S8x4096x512 .bf16) (g : FVec Ideal S512 .f32) (qr kr vr : S8x4096x512.Idx → ℝ)
    (hq : ∀ i, q i = ((qr i : ℝ) : EReal)) (hk : ∀ i, k i = ((kr i : ℝ) : EReal)) (hv : ∀ i, v i = ((vr i : ℝ) : EReal))
    (b h : Fin 8) (t : Fin 4096) (e : Fin 64) :
    RetRef.gated (RetRef.ret q k v) sg g (ix3 b t (at64 h e)) = result qr kr vr sg g b h t e := by
  refine (RetRef.gated_apply _ sg g b t h e).trans ?_
  unfold result
  simp only [ref_mix q k v qr kr vr hq hk hv]

variable (m : (ℓ : Loc nD τ sig) → Buf (Elt Ideal) ℓ) (c : Dev nD)
variable (qr kr vr : S8x4096x512.Idx → ℝ)
variable (hq : ∀ i, m ((c : Thread nD τ).loc main_arg0) i = ((qr i : ℝ) : EReal))
variable (hk : ∀ i, m ((c : Thread nD τ).loc main_arg1) i = ((kr i : ℝ) : EReal))
variable (hv : ∀ i, m ((c : Thread nD τ).loc main_arg2) i = ((vr i : ℝ) : EReal))

include hq hk hv in
/-- The kernel's retention at one row of a point, before the norm. -/
theorem ker_mix (t : Fin cfg0.N) (g : Fin 2) (r : Fin 256) (a : Fin 4) (e : Fin 64) :
    (RetBlock.mixed (RetPoint.lanes3 (iblk m c 0 t) g) (RetPoint.lanes3 (iblk m c 1 t) g) (RetPoint.lanes3 (iblk m c 2 t) g)
        (RetState.found m c t g) (RetPoint.lanes2 (iblk m c 4 t) g)
        (RetPoint.slice8 (iblk m c 6 t) (headOf g 0)) (RetPoint.slice8 (iblk m c 6 t) (headOf g 1)) (RetPoint.slice8 (iblk m c 6 t) (headOf g 2))
        (RetPoint.slice8 (iblk m c 6 t) (headOf g 3)) (ix2 r (lane a e)) : EReal)
      = ((mix qr kr vr (bat t) (headOf g a) (posn t r) e : ℝ) : EReal) := by
  have hqq : ∀ d : Fin 64, (RetPoint.lanes3 (iblk m c 0 t) g (ix3 0 r (lane a d)) : EReal)
      = ((qr (ix3 (bat t) (posn t r) (at64 (headOf g a) d)) : ℝ) : EReal) := by
    intro d
    show (iblk m c 0 t (ix3 0 r (wide g (lane a d))) : EReal) = _
    rw [lane_eq, RetState.blk0, hq]
  have hkk : ∀ (j : Fin 256) (d : Fin 64), (RetPoint.lanes3 (iblk m c 1 t) g (ix3 0 j (lane a d)) : EReal)
      = ((col kr (bat t) (headOf g a) d (256 * (t.val % 16) + j.val) : ℝ) : EReal) := by
    intro j d
    show (iblk m c 1 t (ix3 0 j (wide g (lane a d))) : EReal) = _
    rw [lane_eq, RetState.blk1, hk, RetState.col_posn kr]
  have hvv : ∀ j : Fin 256, (RetPoint.lanes3 (iblk m c 2 t) g (ix3 0 j (lane a e)) : EReal)
      = ((col vr (bat t) (headOf g a) e (256 * (t.val % 16) + j.val) : ℝ) : EReal) := by
    intro j
    show (iblk m c 2 t (ix3 0 j (wide g (lane a e))) : EReal) = _
    rw [lane_eq, RetState.blk2, hv, RetState.col_posn vr]
  have hqd : ∀ d : Fin 64, (RetPoint.lanes2 (iblk m c 4 t) g (ix2 r (lane a d)) : EReal)
      = ((Real.exp (RetDecay.lg (headOf g a) * ((r : ℕ) + 1)) : ℝ) : EReal) := by
    intro d
    show (iblk m c 4 t (ix2 r (wide g (lane a d))) : EReal) = _
    rw [lane_eq, RetState.blk4]
  have hD : ∀ j : Fin 256, (RetPoint.slice8 (iblk m c 6 t) (headOf g a) (ix3 0 r j) : EReal)
      = ((if j.val ≤ r.val then Real.exp (RetDecay.lg (headOf g a) * ((r : ℕ) - (j : ℕ))) else 0 : ℝ) : EReal) := by
    intro j
    show (iblk m c 6 t (ix3 (headOf g a) r j) : EReal) = _
    rw [RetState.blk6]
  have hst := RetState.found_good m c kr vr hk hv t.val t.isLt g
  let F : Fin 256 → EReal := fun d =>
    (show EReal from RetPoint.lanes3 (iblk m c 0 t) g (ix3 0 r d)) * (show EReal from RetPoint.lanes2 (iblk m c 4 t) g (ix2 r d))
      * (show EReal from RetState.found m c t g (ix3 0 d (lane a e)))
  refine (RetBlock.mixed_apply _ _ _ _ _ (fun x => RetPoint.slice8 (iblk m c 6 t) (headOf g x)) r a e).trans ?_
  have hsum : (∑ d : Fin 256, F d)
      = ∑ d : Fin 64, ((qr (ix3 (bat t) (posn t r) (at64 (headOf g a) d)) * Real.exp (RetDecay.lg (headOf g a) * ((r : ℕ) + 1))
        * RetAlg.state (RetDecay.lg (headOf g a)) (col kr (bat t) (headOf g a) d) (col vr (bat t) (headOf g a) e) (t.val % 16) : ℝ) : EReal) := by
    rw [show (∑ d : Fin 256, F d)
      = ∑ d : Fin 256, if d.val / 64 = a.val then F d else 0 from Finset.sum_congr rfl fun d _ => ?_]
    · rw [RetAlg.sum_head]
      refine Finset.sum_congr rfl fun d _ => ?_
      rw [EReal.coe_mul, EReal.coe_mul]
      refine congrArg₂ (· * ·) (congrArg₂ (· * ·) (hqq d) (hqd d)) ?_
      exact (hst a a d e).trans (if_pos rfl)
    · obtain ⟨a', d', rfl⟩ : ∃ (a' : Fin 4) (d' : Fin 64), d = lane a' d' :=
        ⟨⟨d.val / 64, by omega⟩, ⟨d.val % 64, by omega⟩, Fin.ext (by show d.val = 64 * (d.val / 64) + d.val % 64; omega)⟩
      by_cases ha : a' = a
      · rw [if_pos (by rw [lane_div, ha])]
      · rw [if_neg (by rw [lane_div]; exact fun h => ha (Fin.ext h))]
        have h0 : (RetState.found m c t g (ix3 0 (lane a' d') (lane a e)) : EReal) = 0 := (hst a' a d' e).trans (if_neg ha)
        exact (congrArg _ h0).trans (mul_zero _)
  refine (congrArg₂ (· + ·) hsum rfl).trans ?_
  rw [mix, show (posn t r).val = 256 * (t.val % 16) + r.val from rfl, RetAlg.out_chunk, EReal.coe_add, RetAlg.coe_sum, RetAlg.coe_sum]
  refine congrArg₂ (· + ·) rfl (Finset.sum_congr rfl fun j _ => ?_)
  rw [EReal.coe_mul, EReal.coe_mul, RetAlg.coe_sum]
  refine congrArg₂ (· * ·) (congrArg₂ (· * ·) (Finset.sum_congr rfl fun d _ => ?_) (hD j)) (hvv j)
  rw [EReal.coe_mul]
  exact congrArg₂ (· * ·) (hqq d) (hkk j d)

theorem sixty_four : Ideal.ofBits .f32 0x42800000#32 = ((64 : ℝ) : EReal) := by
  simp [Ideal.ofBits, Ideal.ieee, -EReal.coe_mul, -EReal.coe_neg]; norm_num

theorem one_sixty_fourth : Ideal.ofBits .f32 0x3C800000#32 = ((1 / 64 : ℝ) : EReal) := by
  simp [Ideal.ofBits, Ideal.ieee, -EReal.coe_mul, -EReal.coe_neg]; norm_num

include hq hk hv in
/-- The kernel's result at one row of a point. -/
theorem ker_result (t : Fin cfg0.N) (g : Fin 2) (r : Fin 256) (a : Fin 4) (e : Fin 64) :
    (outsAt0 m c t.val t.isLt).1 (ix3 0 r (wide g (lane a e)))
      = result qr kr vr (m ((c : Thread nD τ).loc main_arg3)) (m ((c : Thread nD τ).loc main_arg4)) (bat t) (headOf g a) (posn t r) e := by
  rw [RetState.out_eq]
  unfold RetPoint.newOut
  refine (RetBlock.normed_apply _ _ _ _ r (lane a e)).trans ?_
  have hg : (RetPoint.lanes1 (iblk m c 10 t) g (ix2 0 (lane a e)) : EReal) = m ((c : Thread nD τ).loc main_arg4) (ix1 (at64 (headOf g a) e)) := by
    show (iblk m c 10 t (ix2 0 (wide g (lane a e))) : EReal) = _
    rw [lane_eq, RetState.blk10]
  have hs : (RetPoint.lanes3 (iblk m c 3 t) g (ix3 0 r (lane a e)) : EReal)
      = m ((c : Thread nD τ).loc main_arg3) (ix3 (bat t) (posn t r) (at64 (headOf g a) e)) := by
    show (iblk m c 3 t (ix3 0 r (wide g (lane a e))) : EReal) = _
    rw [lane_eq, RetState.blk3]
  have hm := ker_mix m c qr kr vr hq hk hv t g r a
  generalize RetBlock.mixed _ _ _ _ _ _ _ _ _ = o at hm ⊢
  have hsum : (∑ x : Fin 256, o (ix2 r x) * o (ix2 r x) * iblk m c 9 t (ix2 x (lane a e)) : EReal)
      = ∑ x : Fin 64, (mix qr kr vr (bat t) (headOf g a) (posn t r) x : EReal) * (mix qr kr vr (bat t) (headOf g a) (posn t r) x : EReal) := by
    rw [show (∑ x : Fin 256, o (ix2 r x) * o (ix2 r x) * iblk m c 9 t (ix2 x (lane a e)) : EReal)
      = ∑ x : Fin 256, if x.val / 64 = a.val then (o (ix2 r x) * o (ix2 r x) : EReal) else 0 from Finset.sum_congr rfl fun x _ => ?_]
    · rw [RetAlg.sum_head]
      exact Finset.sum_congr rfl fun x _ => congrArg₂ (· * ·) (hm x) (hm x)
    · rw [RetState.blk9, lane_div, mul_ite, mul_one, mul_zero]
  refine (congrArg₂ (· * ·) (congrArg₂ (· * ·) (congrArg₂ (· * ·) (hm e) (congrArg Ideal.rsqrt (congrArg₂ (· + ·) (congrArg₂ (· * ·) hsum rfl) rfl))) hg) hs).trans ?_
  unfold result
  rw [sixty_four, one_sixty_fourth, Ideal.div_coe (by norm_num)]
  exact mul_comm _ _

end Cert.Proof.RetOut

end
-- ==== Proof.RetPre.lean ====
/-
  WHAT THE CONDITION of the retention's claim says: every entry of the queries, keys and values is a real number.
-/
module

public import proofs.«01_k».proof.Defs
public import proofs.«01_k».proof.Proof.Gen.Pre_finite_qkv
public import Idealize.ShloMosaic.Lib.ReduceAll
public import Idealize.ShloMosaic.Lib.Pointwise
public import Idealize.ShloMosaic.PureOps.Ideal

@[expose] public section

noncomputable section

namespace Cert.Proof.RetPre

open Idealize.ShloMosaic Cert.Pre_finite_qkv Cert.Pre_finite_qkv.Gen

theorem of_mark {p : Prop} [Decidable p] (h : BitVec.ofBool (decide p) = 1#1) : p := by
  by_contra c
  rw [decide_eq_false c] at h
  exact absurd h (by decide)

/-- One array's part of the condition. -/
theorem entry (x : FVec Ideal S8x4096x512 .bf16) (j : S_.Idx) (i : S8x4096x512.Idx)
    (h : Host.reduce IntOp.andi (cmpf .olt (Host.absf (extf .f32 x bitsLt_bf16_f32 : FVec Ideal S8x4096x512 .f32))
        (broadcastInDim S8x4096x512 ![] bcast_S_S8x4096x512 (constant S_ .f32 0x7F800000#32 : FVec Ideal S_ .f32)))
      (constantI S_ 1 1#1) reducesTo_S8x4096x512_S_d0_1_2 h_S_ j = 1#1) : ∃ r : ℝ, x i = (r : EReal) := by
  have e := Host.reduce_andi_all _ _ _ _ j h i
  obtain ⟨a, b, d, rfl⟩ : ∃ (a : Fin 8) (b : Fin 4096) (d : Fin 512), i = ix3 a b d := ⟨i 0, i 1, i 2, eq_ix3 i⟩
  revert e
  pointwise
  rw [show (Ideal.ofBits .f32 2139095040#32 : EReal) = ⊤ by simp [Ideal.ofBits, Ideal.ieee]]
  intro e
  have e' : (FloatOps.absf (x (ix3 a b d)) : EReal) < ⊤ := by
    exact of_mark e
  revert e'
  show max (x (ix3 a b d) : EReal) (-x (ix3 a b d)) < ⊤ → _
  generalize (x (ix3 a b d) : EReal) = y
  intro e'
  induction y using EReal.rec with
  | bot => simp at e'
  | coe r => exact ⟨r, rfl⟩
  | top => simp at e'

theorem fn_entries (q k v s : FVec Ideal S8x4096x512 .bf16) (g : FVec Ideal S512 .f32) (j : S_.Idx) (h : fn q k v s g j = 1#1) (i : S8x4096x512.Idx) :
    (∃ r : ℝ, q i = (r : EReal)) ∧ (∃ r : ℝ, k i = (r : EReal)) ∧ (∃ r : ℝ, v i = (r : EReal)) := by
  have hand : ∀ x y : BitVec 1, x &&& y = 1#1 → x = 1#1 ∧ y = 1#1 := by decide
  obtain ⟨h12, h3⟩ := hand _ _ h
  obtain ⟨h1, h2⟩ := hand _ _ h12
  exact ⟨entry q j i h1, entry k j i h2, entry v j i h3⟩

end Cert.Proof.RetPre

end
-- ==== Proof.RetValue.lean ====
/-
  THE VALUE CLAIM of the retention: on real queries, keys and values, the kernel's result array is the reference's.
-/
module

public import proofs.«01_k».proof.Defs
public import proofs.«01_k».proof.Proof.RetOut
public import proofs.«01_k».proof.Proof.RetPre
public import proofs.«01_k».proof.Proof.Gen.KernelIdeal.Value
public import proofs.«01_k».proof.Proof.Gen.ReferenceIdeal.Run

@[expose] public section

noncomputable section

namespace Cert.Proof.RetValue

open Idealize.ShloMosaic Idealize.ShloMosaic.TcCoe Idealize.SL.Sem Cert.KernelIdeal Cert.KernelIdeal.Gen Cert.Proof
open Cert.Proof.RetTables (at64)

/-- An array whose entries are all real numbers, as an array of reals. -/
theorem reals {ι : Type} (x : ι → EReal) (h : ∀ i, ∃ r : ℝ, x i = (r : EReal)) : ∃ f : ι → ℝ, ∀ i, x i = ((f i : ℝ) : EReal) :=
  ⟨fun i => (h i).choose, fun i => (h i).choose_spec⟩

variable (m : (ℓ : Loc nD τ sig) → Buf (Elt Ideal) ℓ) (c : Dev nD)

/-- The kernel's result array. -/
theorem final (qr kr vr : S8x4096x512.Idx → ℝ)
    (hq : ∀ i, m ((c : Thread nD τ).loc main_arg0) i = ((qr i : ℝ) : EReal))
    (hk : ∀ i, m ((c : Thread nD τ).loc main_arg1) i = ((kr i : ℝ) : EReal))
    (hv : ∀ i, m ((c : Thread nD τ).loc main_arg2) i = ((vr i : ℝ) : EReal)) :
    (dats m 0 c).arrAt 11 cfg0.N
      = RetRef.gated (RetRef.ret (m ((c : Thread nD τ).loc main_arg0)) (m ((c : Thread nD τ).loc main_arg1)) (m ((c : Thread nD τ).loc main_arg2)))
          (m ((c : Thread nD τ).loc main_arg3)) (m ((c : Thread nD τ).loc main_arg4)) := by
  refine (dats m 0 c).arrAt_eq_of_covers 11 _ (by decide +kernel) fun t hf y => ?_
  obtain ⟨e0, e1, e2, e3, e4, e5, e6, e7, e8, e9, e10, e11⟩ := RetState.idx t
  blk_simp
  rw [after0_11]
  obtain ⟨z, r, d, rfl⟩ : ∃ (z : Fin 1) (r : Fin 256) (d : Fin 512), y = ix3 z r d := ⟨y 0, y 1, y 2, (eq_ix3 y)⟩
  obtain rfl : z = 0 := Subsingleton.elim _ _
  obtain ⟨g, a, e, rfl⟩ : ∃ (g : Fin 2) (a : Fin 4) (e : Fin 64), d = RetPoint.wide g (RetBlock.lane a e) :=
    ⟨⟨d.val / 256, by omega⟩, ⟨d.val / 64 % 4, by omega⟩, ⟨d.val % 64, by omega⟩,
      Fin.ext (by show d.val = 256 * (d.val / 256) + (64 * (d.val / 64 % 4) + d.val % 64); omega)⟩
  refine (RetOut.ker_result m c qr kr vr hq hk hv t g r a e).trans ?_
  have hi : (win0_11.blk t).view.emb (ix3 0 r (RetPoint.wide g (RetBlock.lane a e)))
      = (ix3 (RetState.bat t) (RetState.posn t r) (at64 (RetPoint.headOf g a) e) : S8x4096x512.Idx) := by
    rw [RetState.lane_eq]
    blk_ext [e11]
  rw [hi]
  exact (RetOut.ref_result _ _ _ _ _ qr kr vr hq hk hv _ _ _ _).symm

theorem res_eq (m' : (ℓ : Loc Cert.ReferenceIdeal.nD Cert.ReferenceIdeal.τ Cert.ReferenceIdeal.sig) → Buf (Elt Ideal) ℓ)
    (hpre : Pre_KernelIdeal_finite_qkv m)
    (h : m' ((c.tc : Thread Cert.ReferenceIdeal.nD Cert.ReferenceIdeal.τ).loc Cert.ReferenceIdeal.main_arg0) = m ((c : Thread nD τ).loc main_arg0)
      ∧ m' ((c.tc : Thread Cert.ReferenceIdeal.nD Cert.ReferenceIdeal.τ).loc Cert.ReferenceIdeal.main_arg1) = m ((c : Thread nD τ).loc main_arg1)
      ∧ m' ((c.tc : Thread Cert.ReferenceIdeal.nD Cert.ReferenceIdeal.τ).loc Cert.ReferenceIdeal.main_arg2) = m ((c : Thread nD τ).loc main_arg2)
      ∧ m' ((c.tc : Thread Cert.ReferenceIdeal.nD Cert.ReferenceIdeal.τ).loc Cert.ReferenceIdeal.main_arg3) = m ((c : Thread nD τ).loc main_arg3)
      ∧ m' ((c.tc : Thread Cert.ReferenceIdeal.nD Cert.ReferenceIdeal.τ).loc Cert.ReferenceIdeal.main_arg4) = m ((c : Thread nD τ).loc main_arg4)) :
    Cert.ReferenceIdeal.Value.res_out0 m' c = (dats m 0 c).arrAt 11 cfg0.N := by
  obtain ⟨h0, h1, h2, h3, h4⟩ := h
  have hall := fun i => RetPre.fn_entries _ _ _ _ _ ix0 (congrFun (hpre c) ix0) i
  obtain ⟨qr, hq⟩ := reals _ fun i => (hall i).1
  obtain ⟨kr, hk⟩ := reals _ fun i => (hall i).2.1
  obtain ⟨vr, hv⟩ := reals _ fun i => (hall i).2.2
  rw [final m c qr kr vr hq hk hv]
  refine (RetRef.res_eq m' c).trans ?_
  rw [h0, h1, h2, h3, h4]

theorem algebraic : Cert.algebraic_KernelIdeal_ReferenceIdeal_pre_finite_qkv := fun m g m' g' hp h =>
  ⟨fun c => (dats m 0 c).arrAt 11 cfg0.N, Cert.KernelIdeal.Value.run_blocks m g,
    (θ_run Cert.ReferenceIdeal.defs _ _).mono (fun _ hr c => ⟨(hr c).1.trans (res_eq m c m' hp (h c)), (hr c).2⟩)
      (Cert.ReferenceIdeal.Value.run m' g')⟩

end Cert.Proof.RetValue

end
-- ==== Proof.ProjAngle.lean ====
/-
  THE ROTATION'S ANGLES and the arithmetic of the projections that the kernel orders otherwise than the reference: a positive
  real factor drawn through a sum and through a rotation, and the bits that tell the lanes of a pair apart.
-/
module

public import proofs.«01_k».proof.Proof.RetAlg
public import Idealize.ShloMosaic.PureOps.Ideal
public import Idealize.ShloMosaic.Lib.Pointwise.Sums

@[expose] public section

noncomputable section

namespace Cert.Proof.ProjAngle

open Idealize.ShloMosaic Cert.Proof
open scoped BigOperators

/-- A whole number as a float. -/
def num (n : ℕ) : EReal := (FloatOps.sitofp .f32 (BitVec.ofNat 32 n) : Ideal .f32)

/-- The exponent of a pair's frequency: equal steps from zero to one. -/
def lin (i : ℕ) : EReal :=
  if i < 31 then
    Ideal.ofBits .f32 0#32 * (1 - Ideal.div (num i) (Ideal.ofBits .f32 1106771968#32))
      + Ideal.ofBits .f32 1065353216#32 * Ideal.div (num i) (Ideal.ofBits .f32 1106771968#32)
  else Ideal.ofBits .f32 1065353216#32

/-- The angle of pair `i` at position `t`. -/
def ang (t i : ℕ) : EReal := num t * Ideal.div 1 (Ideal.pow (Ideal.ofBits .f32 1176256512#32) (lin i))

/-- Lane `d` of head `h`, among the eight heads and among the four. -/
abbrev at64 (h : Fin 8) (d : Fin 64) : Fin 512 := ⟨h.val * 64 + d.val, by omega⟩
abbrev at4 (h : Fin 4) (d : Fin 64) : Fin 256 := ⟨h.val * 64 + d.val, by omega⟩

/-- Side `p` of pair `i`. -/
abbrev pair (i : Fin 32) (p : Fin 2) : Fin 64 := ⟨i.val * 2 + p.val, by omega⟩

theorem one_word : (Ideal.ofBits .f32 1065353216#32 : EReal) = 1 := by
  simp [Ideal.ofBits, Ideal.ieee, -EReal.coe_mul, -EReal.coe_neg]; norm_num

theorem minus_one_word : (Ideal.ofBits .f32 3212836864#32 : EReal) = -1 := by
  have h : (Ideal.ofBits .f32 3212836864#32 : EReal) = ((-1 : ℝ) : EReal) := by
    simp [Ideal.ofBits, Ideal.ieee, -EReal.coe_mul, -EReal.coe_neg]; norm_num
  rw [h, EReal.coe_neg, EReal.coe_one]

theorem eighth_word : (Ideal.ofBits .f32 1040187392#32 : EReal) = ((1 / 8 : ℝ) : EReal) := by
  simp [Ideal.ofBits, Ideal.ieee, -EReal.coe_mul, -EReal.coe_neg]; norm_num

/-- The even lanes of the kernel's rotation. -/
theorem even_lane : ∀ e : Fin 512,
    IntOp.cmpi CmpIPredicate.eq (IntOp.andi (BitVec.ofNat 32 e.val) 1#32) 0#32 = if e.val % 2 = 0 then 1#1 else 0#1 := by
  decide +kernel

/-- The host's remainder by two, as it is written there, tells the even lanes. -/
theorem even_rem : ∀ e : Fin 64,
    IntOp.cmpi CmpIPredicate.eq
      (Scalar.select
        (IntOp.andi
          (IntOp.cmpi CmpIPredicate.ne
            (IntOp.cmpi CmpIPredicate.slt (IntOp.remsi ArithUnit.host (BitVec.ofNat 32 e.val)
              (Scalar.select (IntOp.cmpi CmpIPredicate.eq 2#32 0#32) 1#32 2#32)) 0#32)
            (IntOp.cmpi CmpIPredicate.slt (Scalar.select (IntOp.cmpi CmpIPredicate.eq 2#32 0#32) 1#32 2#32) 0#32))
          (IntOp.cmpi CmpIPredicate.ne (IntOp.remsi ArithUnit.host (BitVec.ofNat 32 e.val)
            (Scalar.select (IntOp.cmpi CmpIPredicate.eq 2#32 0#32) 1#32 2#32)) 0#32))
        (IntOp.addi (IntOp.remsi ArithUnit.host (BitVec.ofNat 32 e.val)
            (Scalar.select (IntOp.cmpi CmpIPredicate.eq 2#32 0#32) 1#32 2#32))
          (Scalar.select (IntOp.cmpi CmpIPredicate.eq 2#32 0#32) 1#32 2#32))
        (IntOp.remsi ArithUnit.host (BitVec.ofNat 32 e.val) (Scalar.select (IntOp.cmpi CmpIPredicate.eq 2#32 0#32) 1#32 2#32)))
      0#32 = if e.val % 2 = 0 then 1#1 else 0#1 := by
  decide

/-- A positive real factor distributes over any sum of two. -/
theorem add_mul_pos (x y : EReal) (s : ℝ) (hs : 0 < s) : (x + y) * (s : EReal) = x * s + y * s := by
  have ht : (⊤ : EReal) * (s : EReal) = ⊤ := EReal.top_mul_coe_of_pos hs
  have hb : (⊥ : EReal) * (s : EReal) = ⊥ := EReal.bot_mul_coe_of_pos hs
  induction x using EReal.rec with
  | bot => rw [EReal.bot_add, hb, EReal.bot_add]
  | top =>
    induction y using EReal.rec with
    | bot => rw [EReal.add_bot, hb, EReal.add_bot]
    | top => rw [EReal.top_add_top, ht, EReal.top_add_top]
    | coe b => rw [EReal.top_add_coe, ht, ← EReal.coe_mul, EReal.top_add_coe]
  | coe a =>
    induction y using EReal.rec with
    | bot => rw [EReal.add_bot, hb, EReal.add_bot]
    | top => rw [EReal.coe_add_top, ht, ← EReal.coe_mul, EReal.coe_add_top]
    | coe b => rw [← EReal.coe_add, ← EReal.coe_mul, ← EReal.coe_mul, ← EReal.coe_mul, ← EReal.coe_add, add_mul]

/-- It is drawn out of a sum of products. -/
theorem sum_scaled {n : ℕ} (f w : Fin n → EReal) (s : ℝ) (hs : 0 < s) : ∑ k, f k * (w k * (s : EReal)) = (∑ k, f k * w k) * (s : EReal) := by
  have h : ∀ A : Finset (Fin n), ∑ k ∈ A, f k * (w k * (s : EReal)) = (∑ k ∈ A, f k * w k) * (s : EReal) := by
    intro A
    induction A using Finset.induction_on with
    | empty => rw [Finset.sum_empty, Finset.sum_empty, zero_mul]
    | insert a A ha ih => rw [Finset.sum_insert ha, Finset.sum_insert ha, ih, add_mul_pos _ _ s hs, mul_assoc]
  exact h Finset.univ

/-- One side of a rotated pair, as the reference writes it. -/
def side (a b θ : EReal) (p : Fin 2) : EReal :=
  if p.val < 1 then a * Ideal.cos θ - b * Ideal.sin θ else a * Ideal.sin θ + b * Ideal.cos θ

/-- The kernel's side: the lane itself and its partner, the sine signed. -/
theorem side_kernel (a b θ : EReal) (p : Fin 2) :
    (if p.val = 0 then a else b) * Ideal.cos θ + (if p.val = 0 then b else a) * (Ideal.sin θ * (if p.val = 0 then -1 else 1)) = side a b θ p := by
  unfold side
  obtain rfl | rfl : p = 0 ∨ p = 1 := by omega
  · show a * Ideal.cos θ + b * (Ideal.sin θ * -1) = a * Ideal.cos θ - b * Ideal.sin θ
    rw [mul_neg, mul_one, mul_neg, sub_eq_add_neg]
  · show b * Ideal.cos θ + a * (Ideal.sin θ * 1) = a * Ideal.sin θ + b * Ideal.cos θ
    rw [mul_one, add_comm]

/-- A rotation of a pair scaled by a positive real is the scaled rotation. -/
theorem side_scaled (a b θ : EReal) (p : Fin 2) (s : ℝ) (hs : 0 < s) : side (a * s) (b * s) θ p = side a b θ p * (s : EReal) := by
  unfold side
  split
  · rw [sub_eq_add_neg, sub_eq_add_neg, add_mul_pos _ _ s hs, EReal.neg_mul, mul_right_comm a, mul_right_comm b]
  · rw [add_mul_pos _ _ s hs, mul_right_comm a, mul_right_comm b]

/-- A head's norm: the kernel's sum over the marked lanes of all the heads is the sum over the head's own. -/
theorem head_sum (u : Fin 256 → EReal) (h : Fin 4) (d : Fin 64) :
    ∑ x : Fin 256, u x * u x * (if x.val / 64 = (at4 h d).val / 64 then 1 else 0) = ∑ x : Fin 64, u (at4 h x) * u (at4 h x) := by
  have hd : (at4 h d).val / 64 = h.val := by show (h.val * 64 + d.val) / 64 = h.val; omega
  have e : ∀ x : Fin 64, (⟨64 * h.val + x.val, by omega⟩ : Fin 256) = at4 h x := fun x => Fin.ext (by show 64 * h.val + x.val = h.val * 64 + x.val; omega)
  rw [show (∑ x : Fin 256, u x * u x * (if x.val / 64 = (at4 h d).val / 64 then 1 else 0))
      = ∑ x : Fin 256, if x.val / 64 = h.val then u x * u x else 0 from Finset.sum_congr rfl fun x _ => by rw [hd, mul_ite, mul_one, mul_zero]]
  rw [RetAlg.sum_head]
  exact Finset.sum_congr rfl fun x _ => by rw [e]

theorem sixty_four : (Ideal.ofBits .f32 1115684864#32 : EReal) = ((64 : ℝ) : EReal) := by
  simp [Ideal.ofBits, Ideal.ieee, -EReal.coe_mul, -EReal.coe_neg]; norm_num

theorem one_sixty_fourth : (Ideal.ofBits .f32 1015021568#32 : EReal) = ((1 / 64 : ℝ) : EReal) := by
  simp [Ideal.ofBits, Ideal.ieee, -EReal.coe_mul, -EReal.coe_neg]; norm_num

/-- The mean over a head's lanes, as a product and as a quotient. -/
theorem mean (x : EReal) : x * Ideal.ofBits .f32 1015021568#32 = Ideal.div x (Ideal.ofBits .f32 1115684864#32) := by
  rw [sixty_four, one_sixty_fourth, Ideal.div_coe (by norm_num)]

end Cert.Proof.ProjAngle

end
-- ==== Proof.ProjRow.lean ====
/-
  THE PROJECTIONS OF ONE POSITION, on plain functions: the norm of its row, a column's projection, the norm of a head and the
  gated units. Both programs are read down to these.
-/
module

public import Idealize.ShloMosaic.PureOps.Ideal
public import Idealize.ShloMosaic.Lib.Pointwise.Sums

@[expose] public section

noncomputable section

namespace Cert.Proof.ProjRow

open Idealize.ShloMosaic
open scoped BigOperators

/-- The row over its root mean square, scaled by the gain. -/
def hid (x g : Fin 1024 → EReal) (k : Fin 1024) : EReal :=
  x k * Ideal.rsqrt (Ideal.div (∑ j, x j * x j) (Ideal.ofBits .f32 0x44800000#32) + Ideal.ofBits .f32 0x358637BD#32) * g k

/-- A row against one column of the weights. -/
def dot (f w : Fin 1024 → EReal) : EReal := ∑ k, f k * w k

/-- The normed row against one column of the weights. -/
def proj (x g w : Fin 1024 → EReal) : EReal := dot (hid x g) w

/-- Lane `d` of a head over the head's root mean square, scaled by the gain. -/
def headNorm (u g : Fin 64 → EReal) (d : Fin 64) : EReal :=
  u d * Ideal.rsqrt (Ideal.div (∑ e, u e * u e) (Ideal.ofBits .f32 0x42800000#32) + Ideal.ofBits .f32 0x358637BD#32) * g d

/-- A gate. -/
def gate (x : EReal) : EReal := Ideal.div 1 (1 + Ideal.exp (-x))

theorem logistic_eq (x : EReal) : Ideal.logistic x = gate x := rfl

end Cert.Proof.ProjRow

end
-- ==== Proof.ProjBlock.lean ====
/-
  WHAT ONE GRID POINT STORES, each of its eight results read at a position of the point's block from the blocks it loads.
-/
module

public import proofs.«01_k».proof.Proof.Gen.Kernel2Ideal.Value
public import proofs.«01_k».proof.Proof.ProjAngle
public import proofs.«01_k».proof.Proof.ProjRow
public import Idealize.ShloMosaic.Lib.Pipeline.ValueKit
public import Idealize.ShloMosaic.Lib.Pointwise

@[expose] public section

set_option maxRecDepth 16384

noncomputable section

namespace Cert.Proof.ProjBlock

open Idealize.ShloMosaic Idealize.ShloMosaic.TcCoe Cert.Kernel2Ideal Cert.Kernel2Ideal.Gen Cert.Proof
open Cert.Proof.ProjAngle (at64 at4 pair)
open Cert.Proof.ProjRow (dot gate headNorm)
open scoped BigOperators

/-! The stores' values from the normed block `n`, weights `w` and the small operands. -/

section Stores

variable (n : Vec Ideal S512x1024 .bf16) (w : Vec Ideal S1024x256 .bf16) (W : Vec Ideal S1024x512 .bf16)

/-- Row `r` against column `e`, of 256 columns and of 512. -/
abbrev u (r : Fin 512) (e : Fin 256) : EReal := dot (fun k => n (ix2 r k)) (fun k => w (ix2 k e))
abbrev U (r : Fin 512) (e : Fin 512) : EReal := dot (fun k => n (ix2 r k)) (fun k => W (ix2 k e))

theorem hid_apply (x : Vec Ideal S1x512x1024 .f32) (g : Vec Ideal S1x1024 .f32) (r : Fin 512) (k : Fin 1024) :
    k0_pay2 x g (ix2 r k) = ProjRow.hid (fun j => x (ix3 0 r j)) (fun j => g (ix2 0 j)) k := by
  pointwise [k0_pay2]
  rfl

theorem plain (r : Fin 512) (e : Fin 256) : k0_pay6 n w (ix3 0 r e) = u n w r e := by
  pointwise [k0_pay6, dot_S512x1024_S1024x256_S512x256_1_0_0_1_n_n]
  rfl

theorem plain_wide (r : Fin 512) (e : Fin 512) : k0_pay14 n W (ix3 0 r e) = U n W r e := by
  pointwise [k0_pay14, dot_S512x1024_S1024x512_S512x512_1_0_0_1_n_n]
  rfl

theorem gated (r : Fin 512) (e : Fin 512) : k0_pay15 n W (ix3 0 r e) = U n W r e * gate (U n W r e) := by
  pointwise [k0_pay15, dot_S512x1024_S1024x512_S512x512_1_0_0_1_n_n]
  rfl

theorem biased (w' : Vec Ideal S1024x256 .bf16) (b b' : Vec Ideal S1x256 .f32) (r : Fin 512) (e : Fin 256) :
    k0_pay1 (k0_pay16 n w b) (k0_pay17 n w') b' (ix3 0 r e) = (u n w r e + b (ix2 0 e)) * gate (u n w' r e + b' (ix2 0 e)) := by
  pointwise [k0_pay1, k0_pay16, k0_pay17, dot_S512x1024_S1024x256_S512x256_1_0_0_1_n_n]
  rfl

/-- The head's norm, its sum over the head's lanes taken against the mark of a common head. -/
theorem normed (o : Vec Ideal S256x256 .bf16) (ho : ∀ a b : Fin 256, (o (ix2 a b) : EReal) = if a.val / 64 = b.val / 64 then 1 else 0)
    (g : Vec Ideal S1x256 .f32) (r : Fin 512) (h : Fin 4) (d : Fin 64) :
    k0_pay5 n w g o (ix3 0 r (at4 h d)) = headNorm (fun e => u n w r (at4 h e)) (fun e => g (ix2 0 (at4 h e))) d := by
  pointwise [k0_pay5, dot_S512x1024_S1024x256_S512x256_1_0_0_1_n_n, dot_S512x256_S256x256_S512x256_1_0_0_1_n_n]
  have e := ProjAngle.head_sum (fun e => u n w r e) h d
  rw [headNorm, ← ProjAngle.mean, ← e]
  refine congrArg (fun z : EReal => u n w r (at4 h d) * Ideal.rsqrt (z * Ideal.ofBits .f32 1015021568#32 + Ideal.ofBits .f32 897988541#32) * g (ix2 0 (at4 h d))) ?_
  exact Finset.sum_congr rfl fun x _ => congrArg (fun z : EReal => u n w r x * u n w r x * z) (ho x (at4 h d))

theorem normed_scaled (x : Vec Ideal S1x512x1024 .f32) (g0 : Vec Ideal S1x1024 .f32) (o : Vec Ideal S256x256 .bf16)
    (ho : ∀ a b : Fin 256, (o (ix2 a b) : EReal) = if a.val / 64 = b.val / 64 then 1 else 0)
    (g : Vec Ideal S1x256 .f32) (r : Fin 512) (h : Fin 4) (d : Fin 64) :
    k0_pay4 (k0_pay3 x g0 w g o) (ix3 0 r (at4 h d))
      = k0_pay5 (k0_pay2 x g0) w g o (ix3 0 r (at4 h d)) * Ideal.ofBits .f32 0x3E38AA3B#32 := by
  pointwise [k0_pay4, k0_pay3, k0_pay5, dot_S512x1024_S1024x256_S512x256_1_0_0_1_n_n, dot_S512x256_S256x256_S512x256_1_0_0_1_n_n]

/-- A lane and its partner, found by the lane's parity, each with its table's entry. -/
def mixed (f : Fin 512 → EReal) (c s : EReal) (e : Fin 512) : EReal :=
  f e * c + Scalar.select (IntOp.cmpi CmpIPredicate.eq (IntOp.andi (BitVec.ofNat 32 e.val) 1#32) 0#32)
    (f ⟨(e.val + 512 - 511) % 512, by omega⟩) (f ⟨(e.val + 512 - 1) % 512, by omega⟩) * s

theorem mixed_queries (cs sn : Vec Ideal S512x512 .f32) (r : Fin 512) (e : Fin 512) :
    k0_pay8 n (k0_pay7 W) cs sn (ix3 0 r e) = mixed (fun e => U n W r e) (cs (ix2 r e)) (sn (ix2 r e)) e := by
  pointwise [k0_pay8, k0_pay7, dot_S512x1024_S1024x512_S512x512_1_0_0_1_n_n]
  rfl

theorem mixed_keys (cs sn : Vec Ideal S512x512 .f32) (r : Fin 512) (e : Fin 512) :
    k0_pay13 (k0_pay10 n W) (k0_pay11 n W cs) (k0_pay12 sn) (ix3 0 r e) = mixed (fun e => U n W r e) (cs (ix2 r e)) (sn (ix2 r e)) e := by
  pointwise [k0_pay13, k0_pay10, k0_pay11, k0_pay12, k0_pay9, dot_S512x1024_S1024x512_S512x512_1_0_0_1_n_n]
  rfl

/-- With the tables' entries of a pair's angle, that is the pair's rotation. -/
theorem mixed_side (f : Fin 512 → EReal) (θ : EReal) (h : Fin 8) (i : Fin 32) (p : Fin 2) :
    mixed f (Ideal.cos θ) (Ideal.sin θ * (if p.val = 0 then -1 else 1)) (at64 h (pair i p))
      = ProjAngle.side (f (at64 h (pair i 0))) (f (at64 h (pair i 1))) θ p := by
  rw [← ProjAngle.side_kernel, mixed, ProjAngle.even_lane]
  obtain rfl | rfl : p = 0 ∨ p = 1 := by omega
  · rw [if_pos (show (at64 h (pair i 0)).val % 2 = 0 by show (h.val * 64 + (i.val * 2 + 0)) % 2 = 0; omega)]
    rw [show (⟨((at64 h (pair i 0)).val + 512 - 511) % 512, by omega⟩ : Fin 512) = at64 h (pair i 1) from
      Fin.ext (by show (h.val * 64 + (i.val * 2 + 0) + 512 - 511) % 512 = h.val * 64 + (i.val * 2 + 1); omega)]
    rfl
  · rw [if_neg (show ¬ (at64 h (pair i 1)).val % 2 = 0 by show ¬ (h.val * 64 + (i.val * 2 + 1)) % 2 = 0; omega)]
    rw [show (⟨((at64 h (pair i 1)).val + 512 - 1) % 512, by omega⟩ : Fin 512) = at64 h (pair i 0) from
      Fin.ext (by show (h.val * 64 + (i.val * 2 + 1) + 512 - 1) % 512 = h.val * 64 + (i.val * 2 + 0); omega)]
    rfl

end Stores

/-! The eight results from the blocks a point loads. -/

variable (x0 : Vec Ideal S1x512x1024 .f32) (x1 : Vec Ideal S1x1024 .f32) (x2 : Vec Ideal S1024x3328 .bf16) (x3 : Vec Ideal S256x256 .bf16)
  (x4 : Vec Ideal S512x512 .f32) (x5 : Vec Ideal S512x512 .f32) (x6 : Vec Ideal S1x256 .f32) (x7 : Vec Ideal S1x256 .f32) (x8 : Vec Ideal S1x512 .f32)

/-- Column `j` of all the projections, at row `r`. -/
abbrev P (r : Fin 512) (j : Fin 3328) : EReal := ProjRow.proj (fun k => x0 (ix3 0 r k)) (fun k => x1 (ix2 0 k)) (fun k => x2 (ix2 k j))

theorem zero3 : (![0, 0, 0] : Fin 3 → Nat) = fun _ => 0 := funext fun a => by fin_cases a <;> rfl

theorem zero2 : (![0, 0] : Fin 2 → Nat) = fun _ => 0 := funext fun a => by fin_cases a <;> rfl

theorem q_apply (ho : ∀ a b : Fin 256, (x3 (ix2 a b) : EReal) = if a.val / 64 = b.val / 64 then 1 else 0) (r : Fin 512) (h : Fin 4) (d : Fin 64) :
    out0_9 x0 x1 x2 x3 x4 x5 x6 x7 x8 (ix3 0 r (at4 h d))
      = headNorm (fun e => P x0 x1 x2 r ⟨0 + (at4 h e).val, by omega⟩) (fun e => x6 (ix2 0 (at4 h e))) d * Ideal.ofBits .f32 0x3E38AA3B#32 := by
  unfold out0_9
  rw [View.canon_unit_zero zero3, View.ld_unit_zero zero3 _ x0, View.ld_unit_zero zero2 _ x1, View.ld_unit_zero zero2 _ x3,
    View.ld_unit_zero zero2 _ x6]
  refine (normed_scaled _ x0 x1 x3 ho x6 r h d).trans (congrArg (fun z : EReal => z * Ideal.ofBits .f32 0x3E38AA3B#32) ?_)
  refine (normed _ _ x3 ho x6 r h d).trans (congrArg (fun z : Fin 64 → EReal => headNorm z _ d) (funext fun e => ?_))
  unfold u P ProjRow.proj
  simp only [hid_apply]
  refine congrArg _ (funext fun k => ?_)
  pointwise

theorem k_apply (ho : ∀ a b : Fin 256, (x3 (ix2 a b) : EReal) = if a.val / 64 = b.val / 64 then 1 else 0) (r : Fin 512) (h : Fin 4) (d : Fin 64) :
    out0_10 x0 x1 x2 x3 x4 x5 x6 x7 x8 (ix3 0 r (at4 h d))
      = headNorm (fun e => P x0 x1 x2 r ⟨256 + (at4 h e).val, by omega⟩) (fun e => x7 (ix2 0 (at4 h e))) d := by
  unfold out0_10 k0_pay18
  rw [View.canon_unit_zero zero3, View.ld_unit_zero zero3 _ x0, View.ld_unit_zero zero2 _ x1, View.ld_unit_zero zero2 _ x3,
    View.ld_unit_zero zero2 _ x7]
  refine (normed _ _ x3 ho x7 r h d).trans (congrArg (fun z : Fin 64 → EReal => headNorm z _ d) (funext fun e => ?_))
  unfold u P ProjRow.proj
  simp only [hid_apply]
  refine congrArg _ (funext fun k => ?_)
  pointwise

theorem v_apply (r : Fin 512) (e : Fin 256) :
    out0_11 x0 x1 x2 x3 x4 x5 x6 x7 x8 (ix3 0 r e) = P x0 x1 x2 r ⟨512 + e.val, by omega⟩ := by
  unfold out0_11 k0_pay18
  rw [View.canon_unit_zero zero3, View.ld_unit_zero zero3 _ x0, View.ld_unit_zero zero2 _ x1]
  refine (plain _ _ r e).trans ?_
  unfold u P ProjRow.proj
  simp only [hid_apply]
  refine congrArg _ (funext fun k => ?_)
  pointwise

theorem rq_apply (θ : EReal) (r : Fin 512) (h : Fin 8) (i : Fin 32) (p : Fin 2) (hc : (x4 (ix2 r (at64 h (pair i p))) : EReal) = Ideal.cos θ)
    (hs : (x5 (ix2 r (at64 h (pair i p))) : EReal) = Ideal.sin θ * (if p.val = 0 then -1 else 1)) :
    out0_12 x0 x1 x2 x3 x4 x5 x6 x7 x8 (ix3 0 r (at64 h (pair i p)))
      = ProjAngle.side (P x0 x1 x2 r ⟨768 + (at64 h (pair i 0)).val, by omega⟩) (P x0 x1 x2 r ⟨768 + (at64 h (pair i 1)).val, by omega⟩) θ p := by
  unfold out0_12 k0_pay18
  rw [View.canon_unit_zero zero3, View.ld_unit_zero zero3 _ x0, View.ld_unit_zero zero2 _ x1, View.ld_unit_zero zero2 _ x4,
    View.ld_unit_zero zero2 _ x5]
  refine (mixed_queries _ _ x4 x5 r (at64 h (pair i p))).trans ?_
  rw [hc, hs, mixed_side]
  unfold U P ProjRow.proj
  simp only [hid_apply]
  refine congrArg₂ (fun a b => ProjAngle.side a b θ p) (congrArg _ (funext fun k => ?_)) (congrArg _ (funext fun k => ?_))
  · pointwise
  · pointwise

theorem rk_apply (θ : EReal) (r : Fin 512) (h : Fin 8) (i : Fin 32) (p : Fin 2) (hc : (x4 (ix2 r (at64 h (pair i p))) : EReal) = Ideal.cos θ)
    (hs : (x5 (ix2 r (at64 h (pair i p))) : EReal) = Ideal.sin θ * (if p.val = 0 then -1 else 1)) :
    out0_13 x0 x1 x2 x3 x4 x5 x6 x7 x8 (ix3 0 r (at64 h (pair i p)))
      = ProjAngle.side (P x0 x1 x2 r ⟨1280 + (at64 h (pair i 0)).val, by omega⟩) (P x0 x1 x2 r ⟨1280 + (at64 h (pair i 1)).val, by omega⟩) θ p := by
  unfold out0_13 k0_pay18
  rw [View.canon_unit_zero zero3, View.ld_unit_zero zero3 _ x0, View.ld_unit_zero zero2 _ x1, View.ld_unit_zero zero2 _ x4,
    View.ld_unit_zero zero2 _ x5]
  refine (mixed_keys _ _ x4 x5 r (at64 h (pair i p))).trans ?_
  rw [hc, hs, mixed_side]
  unfold U P ProjRow.proj
  simp only [hid_apply]
  refine congrArg₂ (fun a b => ProjAngle.side a b θ p) (congrArg _ (funext fun k => ?_)) (congrArg _ (funext fun k => ?_))
  · pointwise
  · pointwise

theorem rv_apply (r : Fin 512) (e : Fin 512) :
    out0_14 x0 x1 x2 x3 x4 x5 x6 x7 x8 (ix3 0 r e) = P x0 x1 x2 r ⟨1792 + e.val, by omega⟩ := by
  unfold out0_14 k0_pay18
  rw [View.canon_unit_zero zero3, View.ld_unit_zero zero3 _ x0, View.ld_unit_zero zero2 _ x1]
  refine (plain_wide _ _ r e).trans ?_
  unfold U P ProjRow.proj
  simp only [hid_apply]
  refine congrArg _ (funext fun k => ?_)
  pointwise

theorem sg_apply (r : Fin 512) (e : Fin 512) :
    out0_15 x0 x1 x2 x3 x4 x5 x6 x7 x8 (ix3 0 r e)
      = P x0 x1 x2 r ⟨2304 + e.val, by omega⟩ * gate (P x0 x1 x2 r ⟨2304 + e.val, by omega⟩) := by
  unfold out0_15 k0_pay18
  rw [View.canon_unit_zero zero3, View.ld_unit_zero zero3 _ x0, View.ld_unit_zero zero2 _ x1]
  refine (gated _ _ r e).trans ?_
  refine congrArg (fun z : EReal => z * gate z) ?_
  unfold U P ProjRow.proj
  simp only [hid_apply]
  refine congrArg _ (funext fun k => ?_)
  pointwise

theorem hg_apply (r : Fin 512) (e : Fin 256) :
    out0_16 x0 x1 x2 x3 x4 x5 x6 x7 x8 (ix3 0 r e)
      = (P x0 x1 x2 r ⟨2816 + e.val, by omega⟩ + x8 (ix2 0 ⟨0 + e.val, by omega⟩))
        * gate (P x0 x1 x2 r ⟨3072 + e.val, by omega⟩ + x8 (ix2 0 ⟨256 + e.val, by omega⟩)) := by
  unfold out0_16 k0_pay18
  rw [View.canon_unit_zero zero3, View.ld_unit_zero zero3 _ x0, View.ld_unit_zero zero2 _ x1]
  refine (biased _ _ _ _ _ r e).trans ?_
  unfold u P ProjRow.proj
  simp only [hid_apply]
  refine congrArg₂ (fun a b : EReal => a * gate b)
    (congrArg₂ (· + ·) (congrArg _ (funext fun k => ?_)) ?_) (congrArg₂ (· + ·) (congrArg _ (funext fun k => ?_)) ?_)
  · pointwise
  · pointwise
  · pointwise
  · pointwise

end Cert.Proof.ProjBlock

end
-- ==== Proof.ProjTables.lean ====
/-
  WHAT THE HOST PREPARES for the projections, read at an index: the rotation's tables, the scaled weights, the mark of which
  lanes share a head, and the gains.
-/
module

public import proofs.«01_k».proof.Proof.Gen.Kernel2Ideal.Value
public import proofs.«01_k».proof.Proof.ProjAngle
public import proofs.«01_k».proof.Proof.RetTables
public import Idealize.ShloMosaic.Lib.Pipeline.ValueKit
public import Idealize.ShloMosaic.Lib.Pointwise
public import Idealize.ShloMosaic.Lib.StableHlo.ReadAt
public import Idealize.ShloMosaic.Lib.Routing.OpsSet
public import Idealize.ShloMosaic.Lib.Routing.OpsPair

@[expose] public section

noncomputable section

namespace Cert.Proof.ProjTables

open Idealize.ShloMosaic Idealize.ShloMosaic.TcCoe Cert.Kernel2Ideal Cert.Kernel2Ideal.Gen Cert.Proof
open Cert.Proof.ProjAngle (at64 at4 pair ang lin)
open scoped BigOperators

variable (m : (ℓ : Loc nD τ sig) → Buf (Elt Ideal) ℓ) (c : Dev nD)

theorem pair_of (h : Fin 8) (i : Fin 32) (p : Fin 2) : (h.val * 64 + (i.val * 2 + p.val)) % 64 / 2 = i.val := by omega

theorem lane_of (h : Fin 8) (i : Fin 32) (p : Fin 2) : (h.val * 64 + (i.val * 2 + p.val)) % 64 = i.val * 2 + p.val := by omega

theorem cosines (t : Fin 4096) (h : Fin 8) (i : Fin 32) (p : Fin 2) :
    (V m c main_v36 (ix2 t (at64 h (pair i p))) : EReal) = Ideal.cos (ang t.val i.val) := by
  unfold V
  after_reads_at
  split
  · next hi =>
    after_reads_at
    rw [pair_of] at hi ⊢
    rw [ang, lin, if_pos hi]
    rfl
  · next hi =>
    after_reads_at
    rw [pair_of] at hi
    rw [ang, lin, if_neg hi]
    rfl

theorem sines (t : Fin 4096) (h : Fin 8) (i : Fin 32) (p : Fin 2) :
    (V m c main_v42 (ix2 t (at64 h (pair i p))) : EReal) = Ideal.sin (ang t.val i.val) * (if p.val = 0 then -1 else 1) := by
  unfold V
  after_reads_at
  refine congrArg₂ (· * ·) ?_ ?_
  · split
    · next hi =>
      after_reads_at
      rw [pair_of] at hi ⊢
      rw [ang, lin, if_pos hi]
      rfl
    · next hi =>
      after_reads_at
      rw [pair_of] at hi
      rw [ang, lin, if_neg hi]
      rfl
  · rw [id]
    pointwise
    refine (congrArg (fun z => Scalar.select z _ _) ((ProjAngle.even_rem ⟨(h.val * 64 + (i.val * 2 + p.val)) % 64, by omega⟩))).trans ?_
    show Scalar.select (if (h.val * 64 + (i.val * 2 + p.val)) % 64 % 2 = 0 then 1#1 else 0#1) _ _ = _
    rw [show (h.val * 64 + (i.val * 2 + p.val)) % 64 % 2 = p.val by omega, ProjAngle.minus_one_word]
    split <;> rfl

/-- The factor of every column of the weights: an eighth for the retention's keys, else one. -/
theorem factor (j : Fin 3328) :
    Host.scatter scatter_S3328_S1_S512_0_n_0_0 (fun _ b => b) (broadcastInDim S3328 ![] bcast_S_S3328 (constant S_ FTy.f32 1065353216#32))
        (broadcastInDim S1 ![] bcast_S_S1 (constantI S_ 32 1280#32))
        (broadcastInDim S512 ![] bcast_S_S512 (constant S_ FTy.f32 1040187392#32)) (ix1 j)
      = if 1280 ≤ j.val ∧ j.val < 1792 then (Ideal.ofBits .f32 1040187392#32 : EReal) else 1 := by
  have hl : ∀ k : Fin 512, scatter_S3328_S1_S512_0_n_0_0.resultIdx? (ix1 k) (broadcastInDim S1 ![] bcast_S_S1 (constantI S_ 32 1280#32))
      = some (ix1 j) ↔ 1280 + k.val = j.val := by
    intro k
    refine (Routing.resultIdx?_ix1 (N := 3328) scatter_S3328_S1_S512_0_n_0_0 (ix1 k) _ j).trans ?_
    have hs : scatter_S3328_S1_S512_0_n_0_0.start (ix1 k) (broadcastInDim S1 ![] bcast_S_S1 (constantI S_ 32 1280#32)) 0 = 1280 := by
      simp [ScatterDims.start, scatter_S3328_S1_S512_0_n_0_0]
      rfl
    have hw : scatter_S3328_S1_S512_0_n_0_0.window (ix1 k) 0 = k.val := by
      simp [ScatterDims.window, scatter_S3328_S1_S512_0_n_0_0]
      exact dif_pos (by decide)
    rw [hs, hw]
    omega
  split
  · next h =>
    refine Routing.scatter_set_hit _ _ _ _ _ _ (fun k _ => ?_) (ix1 ⟨j.val - 1280, by omega⟩)
      ((hl _).2 (by show 1280 + (j.val - 1280) = j.val; omega))
    rfl
  · next h =>
    refine (Routing.scatter_set_miss _ _ _ _ _ fun k hk => h ?_).trans ProjAngle.one_word
    obtain ⟨k, rfl⟩ : ∃ a : Fin 512, k = ix1 a := ⟨k 0, eq_ix1 k⟩
    have := (hl k).1 hk
    omega

theorem weights (k : Fin 1024) (j : Fin 3328) :
    (V m c main_v50 (ix2 k j) : EReal)
      = (show EReal from m ((c : Thread nD τ).loc main_arg2) (ix2 k j))
        * (if 1280 ≤ j.val ∧ j.val < 1792 then (Ideal.ofBits .f32 1040187392#32 : EReal) else 1) := by
  unfold V
  after_reads_at
  exact congrArg _ (factor j)

/-- The weights of every column but the retention's keys'. -/
theorem weights_plain (k : Fin 1024) (j : Fin 3328) (h : j.val < 1280 ∨ 1792 ≤ j.val) :
    (V m c main_v50 (ix2 k j) : EReal) = m ((c : Thread nD τ).loc main_arg2) (ix2 k j) := by
  rw [weights, if_neg (by omega)]
  exact mul_one (M := EReal) _

theorem weights_keys (k : Fin 1024) (j : Fin 3328) (h : 1280 ≤ j.val ∧ j.val < 1792) :
    (V m c main_v50 (ix2 k j) : EReal) = (show EReal from m ((c : Thread nD τ).loc main_arg2) (ix2 k j)) * ((1 / 8 : ℝ) : EReal) := by
  rw [weights, if_pos h, ProjAngle.eighth_word]

/-- The mark of two lanes of one head. -/
theorem ones (d e : Fin 256) :
    (V m c main_v9 (ix2 d e) : EReal) = if d.val / 64 = e.val / 64 then (1 : EReal) else (0 : EReal) := by
  unfold V
  after_reads_at
  rw [RetTables.same_head]
  split_ifs <;> rfl

theorem gain (k : Fin 1024) : (V m c main_v51 (ix2 0 k) : EReal) = m ((c : Thread nD τ).loc main_arg1) (ix1 k) := by
  unfold V
  after_reads_at

theorem gain_q (h : Fin 4) (d : Fin 64) : (V m c main_v55 (ix2 0 (at4 h d)) : EReal) = m ((c : Thread nD τ).loc main_arg3) (ix1 d) := by
  unfold V
  after_reads_at
  exact congrArg _ (congrArg ix1 (Fin.ext (by show (h.val * 64 + d.val) % 64 = d.val; omega)))

theorem gain_k (h : Fin 4) (d : Fin 64) : (V m c main_v59 (ix2 0 (at4 h d)) : EReal) = m ((c : Thread nD τ).loc main_arg4) (ix1 d) := by
  unfold V
  after_reads_at
  exact congrArg _ (congrArg ix1 (Fin.ext (by show (h.val * 64 + d.val) % 64 = d.val; omega)))

theorem bias (e : Fin 512) : (V m c main_v60 (ix2 0 e) : EReal) = m ((c : Thread nD τ).loc main_arg5) (ix1 e) := by
  unfold V
  after_reads_at

end Cert.Proof.ProjTables

end
-- ==== Proof.ProjRef.lean ====
/-
  WHAT THE REFERENCE COMPUTES: its eight results in its own operations, and each read at a position down to the functions of
  `ProjRow.lean` and `ProjAngle.lean`.
-/
module

public import proofs.«01_k».proof.Proof.Gen.Reference2Ideal.Run
public import proofs.«01_k».proof.Proof.ProjAngle
public import proofs.«01_k».proof.Proof.ProjRow
public import Idealize.ShloMosaic.Lib.Pointwise

@[expose] public section

set_option maxRecDepth 16384

noncomputable section

namespace Cert.Proof.ProjRef

open Idealize.ShloMosaic Idealize.ShloMosaic.TcCoe Cert.Reference2Ideal Cert.Reference2Ideal.Gen Cert.Proof
open Cert.Proof.ProjAngle (at64 at4 pair)
open scoped BigOperators

/-- The layer's input, normed. -/
def hid (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf
      (broadcastInDim S8x4096x1 ![0, 1] bcast_S8x4096_S8x4096x1_0_1 (Host.reduceAdd (mulf x x) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- All the projections. -/
def all (x : FVec Ideal S8x4096x1024 .f32) (g : FVec Ideal S1024 .f32) (w : FVec Ideal S1024x3328 .f32) : FVec Ideal S8x4096x3328 .f32 :=
  Host.dotGeneral dot_S8x4096x1024_S1024x3328_S8x4096x3328_2_0_01_1_n_n none (hid x g) w

/-- A projection of four heads, normed head by head. -/
def headNorm (u : FVec Ideal S8x4096x256 .f32) (g : FVec Ideal S64 .f32) : FVec Ideal S8x4096x256 .f32 :=
  let v : FVec Ideal S8x4096x4x64 .f32 := shapeCast _ u shapeCasts_S8x4096x256_S8x4096x4x64
  shapeCast _ (mulf (mulf v (broadcastInDim S8x4096x4x64 ![0, 1, 2, 3] bcast_S8x4096x4x1_S8x4096x4x64_0_1_2_3 (Host.rsqrt (addf (Host.divf
      (broadcastInDim S8x4096x4x1 ![0, 1, 2] bcast_S8x4096x4_S8x4096x4x1_0_1_2 (Host.reduceAdd (mulf v v) (constant S_ .f32 0x00000000#32) reducesTo_S8x4096x4x64_S8x4096x4_d3 h_S_))
      (broadcastInDim S8x4096x4x1 ![] bcast_S_S8x4096x4x1 (constant S_ .f32 0x42800000#32)))
      (broadcastInDim S8x4096x4x1 ![] bcast_S_S8x4096x4x1 (constant S_ .f32 0x358637BD#32))))))
    (broadcastInDim S8x4096x4x64 ![0, 1, 2, 3] bcast_S1x1x1x64_S8x4096x4x64_0_1_2_3 (broadcastInDim S1x1x1x64 ![3] bcast_S64_S1x1x1x64_3 g)))
    shapeCasts_S8x4096x4x64_S8x4096x256

/-- The frequencies' exponents. -/
def lin : FVec Ideal S32 .f32 :=
  let f : FVec Ideal S31 .f32 := Host.divf (sitofp .f32 (iotaInDim S31 32 0)) (broadcastInDim S31 ![] bcast_S_S31 (constant S_ .f32 0x41F80000#32))
  concatenate S32 0 [⟨S31, (addf (mulf (broadcastInDim S31 ![0] bcast_S1_S31_0 (shapeCast _ (id (constant S_ .f32 0x00000000#32)) shapeCasts_S_S1))
      (subf (broadcastInDim S31 ![] bcast_S_S31 (constant S_ .f32 0x3F800000#32)) f))
    (mulf (broadcastInDim S31 ![0] bcast_S1_S31_0 (shapeCast _ (id (constant S_ .f32 0x3F800000#32)) shapeCasts_S_S1)) f))⟩,
    ⟨S1, (broadcastInDim S1 ![] bcast_S_S1 (id (constant S_ .f32 0x3F800000#32)))⟩] concatenates_S31_S1_S32_d0

/-- The angle of every position and pair. -/
def ang : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1 (Host.divf
      (broadcastInDim S32 ![] bcast_S_S32 (constant S_ .f32 0x3F800000#32))
      (Host.powf (broadcastInDim S32 ![] bcast_S_S32 (constant S_ .f32 0x461C4000#32)) lin))))

/-- A table of position and pair, for every batch member and head. -/
def spread (x : FVec Ideal S4096x32 .f32) : FVec Ideal S8x8x4096x32 .f32 :=
  broadcastInDim S8x8x4096x32 ![0, 1, 2, 3] bcast_S1x1x4096x32_S8x8x4096x32_0_1_2_3 (broadcastInDim S1x1x4096x32 ![2, 3] bcast_S4096x32_S1x1x4096x32_2_3 x)

/-- A projection of eight heads, head by head. -/
def heads (u : FVec Ideal S8x4096x512 .f32) : FVec Ideal S8x8x4096x64 .f32 :=
  transpose S8x8x4096x64 [0, 2, 1, 3] (shapeCast _ u shapeCasts_S8x4096x512_S8x4096x8x64) transposes_S8x4096x8x64_S8x8x4096x64_0_2_1_3

/-- The rotation of every pair of lanes by its angle. -/
def rotated (v : FVec Ideal S8x8x4096x64 .f32) : FVec Ideal S8x8x4096x64 .f32 :=
  let a := Host.slice S8x8x4096x32 ![0, 0, 0, 0] ![1, 1, 1, 2] v slicesBy_S8x8x4096x64_S8x8x4096x32_0s1_0s1_0s1_0s2
  let b := Host.slice S8x8x4096x32 ![0, 0, 0, 1] ![1, 1, 1, 2] v slicesBy_S8x8x4096x64_S8x8x4096x32_0s1_0s1_0s1_1s2
  shapeCast _ (concatenate S8x8x4096x32x2 4
    [⟨S8x8x4096x32x1, (broadcastInDim S8x8x4096x32x1 ![0, 1, 2, 3] bcast_S8x8x4096x32_S8x8x4096x32x1_0_1_2_3
        (subf (mulf a (spread (Host.cos ang))) (mulf b (spread (Host.sin ang)))))⟩,
      ⟨S8x8x4096x32x1, (broadcastInDim S8x8x4096x32x1 ![0, 1, 2, 3] bcast_S8x8x4096x32_S8x8x4096x32x1_0_1_2_3
        (addf (mulf a (spread (Host.sin ang))) (mulf b (spread (Host.cos ang)))))⟩]
    concatenates_S8x8x4096x32x1_S8x8x4096x32x1_S8x8x4096x32x2_d4) shapeCasts_S8x8x4096x32x2_S8x8x4096x64

/-- The heads side by side again. -/
def joined (v : FVec Ideal S8x8x4096x64 .f32) : FVec Ideal S8x4096x512 .f32 :=
  shapeCast _ (transpose S8x4096x8x64 [0, 2, 1, 3] v transposes_S8x8x4096x64_S8x4096x8x64_0_2_1_3) shapeCasts_S8x4096x8x64_S8x4096x512

section Reads

variable (x : FVec Ideal S8x4096x1024 .f32) (g : FVec Ideal S1024 .f32) (w : FVec Ideal S1024x3328 .f32) (b : Fin 8) (t : Fin 4096)

/-- Column `j` of all the projections at a position. -/
abbrev P (j : Fin 3328) : EReal := ProjRow.proj (fun k => x (ix3 b t k)) (fun k => g (ix1 k)) (fun k => w (ix2 k j))

theorem hid_apply (k : Fin 1024) : hid x g (ix3 b t k) = ProjRow.hid (fun k => x (ix3 b t k)) (fun k => g (ix1 k)) k := by
  pointwise [hid]
  rfl

theorem all_apply (j : Fin 3328) : all x g w (ix3 b t j) = P x g w b t j := by
  pointwise [all, dot_S8x4096x1024_S1024x3328_S8x4096x3328_2_0_01_1_n_n]
  exact Finset.sum_congr rfl fun k _ => congrArg (fun z : EReal => z * w (ix2 k j)) (hid_apply x g b t k)

theorem headNorm_apply (u : FVec Ideal S8x4096x256 .f32) (g : FVec Ideal S64 .f32) (b : Fin 8) (t : Fin 4096) (h : Fin 4) (d : Fin 64) :
    headNorm u g (ix3 b t ⟨h.val * 64 + d.val, by omega⟩) = ProjRow.headNorm (fun e => u (ix3 b t (at4 h e))) (fun e => g (ix1 e)) d := by
  pointwise [headNorm]
  rfl

theorem lin_apply (i : Fin 32) : lin (ix1 i) = ProjAngle.lin i.val := by
  pointwise [lin]
  unfold ProjAngle.lin
  split <;> rfl

theorem ang_apply (t : Fin 4096) (i : Fin 32) : ang (ix2 t i) = ProjAngle.ang t.val i.val := by
  pointwise [ang]
  rw [lin_apply]
  rfl

theorem rotated_apply (v : FVec Ideal S8x8x4096x64 .f32) (b h : Fin 8) (t : Fin 4096) (i : Fin 32) (p : Fin 2) :
    rotated v (ix4 b h t ⟨i.val * 2 + p.val, by omega⟩)
      = ProjAngle.side (v (ix4 b h t (pair i 0))) (v (ix4 b h t (pair i 1))) (ProjAngle.ang t.val i.val) p := by
  pointwise [rotated, spread]
  have e0 : (⟨2 * i.val, by omega⟩ : Fin 64) = pair i 0 := Fin.ext (by show 2 * i.val = i.val * 2 + 0; omega)
  have e1 : (⟨1 + 2 * i.val, by omega⟩ : Fin 64) = pair i 1 := Fin.ext (by show 1 + 2 * i.val = i.val * 2 + 1; omega)
  rw [e0, e1, ang_apply]
  unfold ProjAngle.side
  split <;> rfl

theorem joined_apply (v : FVec Ideal S8x8x4096x64 .f32) (b h : Fin 8) (t : Fin 4096) (d : Fin 64) :
    joined v (ix3 b t ⟨h.val * 64 + d.val, by omega⟩) = v (ix4 b h t d) := by
  pointwise [joined]

theorem heads_apply (v : FVec Ideal S8x4096x512 .f32) (b h : Fin 8) (t : Fin 4096) (d : Fin 64) :
    heads v (ix4 b h t d) = v (ix3 b t (at64 h d)) := by
  pointwise [heads]

end Reads

/-! The eight results. -/

section Results

variable (x : FVec Ideal S8x4096x1024 .f32) (g : FVec Ideal S1024 .f32) (w : FVec Ideal S1024x3328 .f32)

/-- The sigmoid, as the reference writes it, over 512 lanes and over 256. -/
def sigmoid (z : FVec Ideal S8x4096x512 .f32) : FVec Ideal S8x4096x512 .f32 :=
  Host.divf (broadcastInDim S8x4096x512 ![] bcast_S_S8x4096x512 (constant S_ .f32 0x3F800000#32))
    (addf (broadcastInDim S8x4096x512 ![] bcast_S_S8x4096x512 (constant S_ .f32 0x3F800000#32)) (Host.exp (Host.negf z)))
def sigmoid4 (z : FVec Ideal S8x4096x256 .f32) : FVec Ideal S8x4096x256 .f32 :=
  Host.divf (broadcastInDim S8x4096x256 ![] bcast_S_S8x4096x256 (constant S_ .f32 0x3F800000#32))
    (addf (broadcastInDim S8x4096x256 ![] bcast_S_S8x4096x256 (constant S_ .f32 0x3F800000#32)) (Host.exp (Host.negf z)))

/-- Half of the convolution's biases at every position. -/
def bias (a : FVec Ideal S256 .f32) : FVec Ideal S8x4096x256 .f32 :=
  broadcastInDim S8x4096x256 ![0, 1, 2] bcast_S1x1x256_S8x4096x256_0_1_2 (broadcastInDim S1x1x256 ![2] bcast_S256_S1x1x256_2 a)

def q (gq : FVec Ideal S64 .f32) : FVec Ideal S8x4096x256 .bf16 :=
  truncf .bf16 (mulf (headNorm (extractStridedSlice S8x4096x256 ![0, 0, 0] (all x g w) slices_S8x4096x3328_S8x4096x256_0_0_0) gq)
    (broadcastInDim S8x4096x256 ![] bcast_S_S8x4096x256 (constant S_ .f32 0x3E38AA3B#32))) bitsLt_bf16_f32

def k (gk : FVec Ideal S64 .f32) : FVec Ideal S8x4096x256 .bf16 :=
  truncf .bf16 (headNorm (extractStridedSlice S8x4096x256 ![0, 0, 256] (all x g w) slices_S8x4096x3328_S8x4096x256_0_0_256) gk) bitsLt_bf16_f32

def v : FVec Ideal S8x4096x256 .bf16 :=
  truncf .bf16 (extractStridedSlice S8x4096x256 ![0, 0, 512] (all x g w) slices_S8x4096x3328_S8x4096x256_0_0_512) bitsLt_bf16_f32

def rq : FVec Ideal S8x4096x512 .bf16 :=
  truncf .bf16 (joined (rotated (heads (extractStridedSlice S8x4096x512 ![0, 0, 768] (all x g w) slices_S8x4096x3328_S8x4096x512_0_0_768)))) bitsLt_bf16_f32

def rk : FVec Ideal S8x4096x512 .bf16 :=
  truncf .bf16 (joined (mulf (rotated (heads (extractStridedSlice S8x4096x512 ![0, 0, 1280] (all x g w) slices_S8x4096x3328_S8x4096x512_0_0_1280)))
    (broadcastInDim S8x8x4096x64 ![] bcast_S_S8x8x4096x64 (constant S_ .f32 0x3E000000#32)))) bitsLt_bf16_f32

def rv : FVec Ideal S8x4096x512 .bf16 :=
  truncf .bf16 (extractStridedSlice S8x4096x512 ![0, 0, 1792] (all x g w) slices_S8x4096x3328_S8x4096x512_0_0_1792) bitsLt_bf16_f32

def sg : FVec Ideal S8x4096x512 .bf16 :=
  let z : FVec Ideal S8x4096x512 .f32 := extractStridedSlice S8x4096x512 ![0, 0, 2304] (all x g w) slices_S8x4096x3328_S8x4096x512_0_0_2304
  truncf .bf16 (mulf z (sigmoid z)) bitsLt_bf16_f32

def hg (cb : FVec Ideal S512 .f32) : FVec Ideal S8x4096x256 .bf16 :=
  truncf .bf16 (mulf
    (addf (extractStridedSlice S8x4096x256 ![0, 0, 2816] (all x g w) slices_S8x4096x3328_S8x4096x256_0_0_2816)
      (bias (extractStridedSlice S256 ![0] cb slices_S512_S256_0)))
    (sigmoid4 (addf (extractStridedSlice S8x4096x256 ![0, 0, 3072] (all x g w) slices_S8x4096x3328_S8x4096x256_0_0_3072)
      (bias (extractStridedSlice S256 ![256] cb slices_S512_S256_256))))) bitsLt_bf16_f32

variable (b : Fin 8) (t : Fin 4096)

theorem q_apply (gq : FVec Ideal S64 .f32) (h : Fin 4) (d : Fin 64) :
    q x g w gq (ix3 b t (at4 h d))
      = ProjRow.headNorm (fun e => P x g w b t ⟨0 + (at4 h e).val, by omega⟩) (fun e => gq (ix1 e)) d * Ideal.ofBits .f32 0x3E38AA3B#32 := by
  refine congrArg (fun z : EReal => z * Ideal.ofBits .f32 0x3E38AA3B#32) ((headNorm_apply _ gq b t h d).trans ?_)
  refine congrArg (fun z : Fin 64 → EReal => ProjRow.headNorm z _ d) (funext fun e => ?_)
  pointwise
  exact all_apply x g w b t _

theorem k_apply (gk : FVec Ideal S64 .f32) (h : Fin 4) (d : Fin 64) :
    k x g w gk (ix3 b t (at4 h d))
      = ProjRow.headNorm (fun e => P x g w b t ⟨256 + (at4 h e).val, by omega⟩) (fun e => gk (ix1 e)) d := by
  refine (headNorm_apply _ gk b t h d).trans ?_
  refine congrArg (fun z : Fin 64 → EReal => ProjRow.headNorm z _ d) (funext fun e => ?_)
  pointwise
  exact all_apply x g w b t _

theorem v_apply (e : Fin 256) : v x g w (ix3 b t e) = P x g w b t ⟨512 + e.val, by omega⟩ := by
  pointwise [v]
  exact all_apply x g w b t _

theorem rv_apply (e : Fin 512) : rv x g w (ix3 b t e) = P x g w b t ⟨1792 + e.val, by omega⟩ := by
  pointwise [rv]
  exact all_apply x g w b t _

theorem sg_apply (e : Fin 512) :
    sg x g w (ix3 b t e) = P x g w b t ⟨2304 + e.val, by omega⟩ * ProjRow.gate (P x g w b t ⟨2304 + e.val, by omega⟩) := by
  rw [← all_apply]
  pointwise [sg, sigmoid]
  rfl

theorem hg_apply (cb : FVec Ideal S512 .f32) (e : Fin 256) :
    hg x g w cb (ix3 b t e)
      = (P x g w b t ⟨2816 + e.val, by omega⟩ + cb (ix1 ⟨0 + e.val, by omega⟩))
        * ProjRow.gate (P x g w b t ⟨3072 + e.val, by omega⟩ + cb (ix1 ⟨256 + e.val, by omega⟩)) := by
  rw [← all_apply, ← all_apply]
  pointwise [hg, sigmoid4, bias]
  rfl

/-- A pair of lanes rotated, from any projection of eight heads. -/
theorem turned (z : FVec Ideal S8x4096x512 .f32) (h : Fin 8) (i : Fin 32) (p : Fin 2) :
    rotated (heads z) (ix4 b h t (pair i p))
      = ProjAngle.side (z (ix3 b t (at64 h (pair i 0)))) (z (ix3 b t (at64 h (pair i 1)))) (ProjAngle.ang t.val i.val) p := by
  refine (rotated_apply _ b h t i p).trans ?_
  rw [heads_apply, heads_apply]

/-- Lane `e` of the 512 columns of the retention's queries, and of its keys. -/
theorem queries_apply (e : Fin 512) :
    (extractStridedSlice S8x4096x512 ![0, 0, 768] (all x g w) slices_S8x4096x3328_S8x4096x512_0_0_768 : FVec Ideal S8x4096x512 .f32) (ix3 b t e)
      = P x g w b t ⟨768 + e.val, by omega⟩ := by
  pointwise
  exact all_apply x g w b t _

theorem keys_apply (e : Fin 512) :
    (extractStridedSlice S8x4096x512 ![0, 0, 1280] (all x g w) slices_S8x4096x3328_S8x4096x512_0_0_1280 : FVec Ideal S8x4096x512 .f32) (ix3 b t e)
      = P x g w b t ⟨1280 + e.val, by omega⟩ := by
  pointwise
  exact all_apply x g w b t _

/-- A change of format and a factor, at a position. -/
theorem narrow (z : FVec Ideal S8x4096x512 .f32) (i : S8x4096x512.Idx) : (truncf .bf16 z bitsLt_bf16_f32 : FVec Ideal S8x4096x512 .bf16) i = z i := rfl

theorem eighth (z : FVec Ideal S8x8x4096x64 .f32) (b h : Fin 8) (t : Fin 4096) (d : Fin 64) :
    mulf z (broadcastInDim S8x8x4096x64 ![] bcast_S_S8x8x4096x64 (constant S_ .f32 0x3E000000#32)) (ix4 b h t d)
      = (show EReal from z (ix4 b h t d)) * ((1 / 8 : ℝ) : EReal) := by
  rw [← ProjAngle.eighth_word]
  pointwise

theorem rq_apply (h : Fin 8) (i : Fin 32) (p : Fin 2) :
    rq x g w (ix3 b t (at64 h (pair i p)))
      = ProjAngle.side (P x g w b t ⟨768 + (at64 h (pair i 0)).val, by omega⟩) (P x g w b t ⟨768 + (at64 h (pair i 1)).val, by omega⟩)
          (ProjAngle.ang t.val i.val) p := by
  unfold rq
  rw [narrow, joined_apply _ b h t (pair i p), turned b t _ h i p, queries_apply, queries_apply]

theorem rk_apply (h : Fin 8) (i : Fin 32) (p : Fin 2) :
    rk x g w (ix3 b t (at64 h (pair i p)))
      = ProjAngle.side (P x g w b t ⟨1280 + (at64 h (pair i 0)).val, by omega⟩) (P x g w b t ⟨1280 + (at64 h (pair i 1)).val, by omega⟩)
          (ProjAngle.ang t.val i.val) p * ((1 / 8 : ℝ) : EReal) := by
  unfold rk
  rw [narrow, joined_apply _ b h t (pair i p), eighth, turned b t _ h i p, keys_apply, keys_apply]

end Results

end Cert.Proof.ProjRef

end
-- ==== Proof.ProjArray.lean ====
/-
  WHAT THE EIGHT RESULT ARRAYS HOLD: after the run each is the reference's result of the same arguments. Every grid point
  writes its own block of 512 positions of one batch member, and the blocks tile the arrays.
-/
module

public import proofs.«01_k».proof.Proof.Gen.Kernel2Ideal.Value
public import proofs.«01_k».proof.Proof.ProjBlock
public import proofs.«01_k».proof.Proof.ProjTables
public import proofs.«01_k».proof.Proof.ProjRef
public import Idealize.ShloMosaic.Lib.Pipeline.ValueKit
public import Idealize.ShloMosaic.Lib.Pointwise

@[expose] public section

set_option maxRecDepth 16384

noncomputable section

namespace Cert.Proof.ProjArray

open Idealize.ShloMosaic Idealize.ShloMosaic.TcCoe Cert.Kernel2Ideal Cert.Kernel2Ideal.Gen Cert.Proof
open Cert.Proof.ProjAngle (at64 at4 pair)
open scoped BigOperators

/-- Where each input's window stands at each point. -/
theorem idx : ∀ t : Fin cfg0.N,
    win0_0.index t = ![(grid0.coords t 1).val, (grid0.coords t 0).val, 0]
    ∧ win0_1.index t = ![0, 0] ∧ win0_2.index t = ![0, 0] ∧ win0_3.index t = ![0, 0]
    ∧ win0_4.index t = ![(grid0.coords t 0).val, 0] ∧ win0_5.index t = ![(grid0.coords t 0).val, 0]
    ∧ win0_6.index t = ![0, 0] ∧ win0_7.index t = ![0, 0] ∧ win0_8.index t = ![0, 0] := by decide +kernel

/-- Where each result's window stands at each point. -/
theorem idx_out : ∀ t : Fin cfg0.N,
    win0_9.index t = ![(grid0.coords t 1).val, (grid0.coords t 0).val, 0]
    ∧ win0_10.index t = ![(grid0.coords t 1).val, (grid0.coords t 0).val, 0]
    ∧ win0_11.index t = ![(grid0.coords t 1).val, (grid0.coords t 0).val, 0]
    ∧ win0_12.index t = ![(grid0.coords t 1).val, (grid0.coords t 0).val, 0]
    ∧ win0_13.index t = ![(grid0.coords t 1).val, (grid0.coords t 0).val, 0]
    ∧ win0_14.index t = ![(grid0.coords t 1).val, (grid0.coords t 0).val, 0]
    ∧ win0_15.index t = ![(grid0.coords t 1).val, (grid0.coords t 0).val, 0]
    ∧ win0_16.index t = ![(grid0.coords t 1).val, (grid0.coords t 0).val, 0] := by decide +kernel

/-- A lane of 512 is a side of a pair of a head; a lane of 256 is a lane of a head. -/
theorem lane_pair (e : Fin 512) : ∃ (h : Fin 8) (i : Fin 32) (p : Fin 2), e = at64 h (pair i p) :=
  ⟨⟨e.val / 64, by omega⟩, ⟨e.val % 64 / 2, by omega⟩, ⟨e.val % 2, by omega⟩,
    Fin.ext (by show e.val = e.val / 64 * 64 + (e.val % 64 / 2 * 2 + e.val % 2); omega)⟩

theorem lane_head (e : Fin 256) : ∃ (h : Fin 4) (d : Fin 64), e = at4 h d :=
  ⟨⟨e.val / 64, by omega⟩, ⟨e.val % 64, by omega⟩, Fin.ext (by show e.val = e.val / 64 * 64 + e.val % 64; omega)⟩

variable (m : (ℓ : Loc nD τ sig) → Buf (Elt Ideal) ℓ) (c : Dev nD)

/-! The blocks point `t` loads, at the position `q` of batch member `b` that its row `r` is. -/

section Blocks

variable (t : Fin cfg0.N)

theorem x_block (r : Fin 512) (b : Fin 8) (q : Fin 4096) (hb : b = grid0.coords t 1) (hq : q.val = 512 * (grid0.coords t 0).val + r.val)
    (k : Fin 1024) : iblk m c 0 t (ix3 0 r k) = m ((c : Thread nD τ).loc main_arg0) (ix3 b q k) := by
  have e0 := (idx t).1
  subst hb
  blk_ext! [iblk, V, e0]

theorem gain_block (k : Fin 1024) : (iblk m c 1 t (ix2 0 k) : EReal) = m ((c : Thread nD τ).loc main_arg1) (ix1 k) := by
  have e1 := (idx t).2.1
  have he : (win0_1.blk t).view.emb (ix2 0 k) = (ix2 0 k : S1x1024.Idx) := by blk_ext [e1]
  show V m c main_v51 ((win0_1.blk t).view.emb (ix2 0 k)) = _
  rw [he]
  exact ProjTables.gain m c k

theorem weights_block (k : Fin 1024) (j : Fin 3328) : iblk m c 2 t (ix2 k j) = V m c main_v50 (ix2 k j) := by
  have e2 := (idx t).2.2.1
  have he : (win0_2.blk t).view.emb (ix2 k j) = (ix2 k j : S1024x3328.Idx) := by blk_ext [e2]
  show V m c main_v50 ((win0_2.blk t).view.emb (ix2 k j)) = _
  rw [he]

theorem ones_block (a b : Fin 256)  : (show EReal from iblk m c 3 t (ix2 a b)) = if a.val / 64 = b.val / 64 then 1 else 0 := by
  have e3 := (idx t).2.2.2.1
  have he : (win0_3.blk t).view.emb (ix2 a b) = (ix2 a b : S256x256.Idx) := by blk_ext [e3]
  show V m c main_v9 ((win0_3.blk t).view.emb (ix2 a b)) = _
  rw [he]
  exact ProjTables.ones m c a b

theorem cos_block (r : Fin 512) (q : Fin 4096) (hq : q.val = 512 * (grid0.coords t 0).val + r.val) (h : Fin 8) (i : Fin 32) (p : Fin 2) :
    (show EReal from iblk m c 4 t (ix2 r (at64 h (pair i p)))) = Ideal.cos (ProjAngle.ang q.val i.val) := by
  have e4 := (idx t).2.2.2.2.1
  have he : (win0_4.blk t).view.emb (ix2 r (at64 h (pair i p))) = (ix2 q (at64 h (pair i p)) : S4096x512.Idx) := by blk_ext [e4]
  show V m c main_v36 ((win0_4.blk t).view.emb (ix2 r (at64 h (pair i p)))) = _
  rw [he]
  exact ProjTables.cosines m c q h i p

theorem sin_block (r : Fin 512) (q : Fin 4096) (hq : q.val = 512 * (grid0.coords t 0).val + r.val) (h : Fin 8) (i : Fin 32) (p : Fin 2) :
    (show EReal from iblk m c 5 t (ix2 r (at64 h (pair i p)))) = Ideal.sin (ProjAngle.ang q.val i.val) * (if p.val = 0 then -1 else 1) := by
  have e5 := (idx t).2.2.2.2.2.1
  have he : (win0_5.blk t).view.emb (ix2 r (at64 h (pair i p))) = (ix2 q (at64 h (pair i p)) : S4096x512.Idx) := by blk_ext [e5]
  show V m c main_v42 ((win0_5.blk t).view.emb (ix2 r (at64 h (pair i p)))) = _
  rw [he]
  exact ProjTables.sines m c q h i p

theorem gain_q_block (h : Fin 4) (d : Fin 64) : (iblk m c 6 t (ix2 0 (at4 h d)) : EReal) = m ((c : Thread nD τ).loc main_arg3) (ix1 d) := by
  have e6 := (idx t).2.2.2.2.2.2.1
  have he : (win0_6.blk t).view.emb (ix2 0 (at4 h d)) = (ix2 0 (at4 h d) : S1x256.Idx) := by blk_ext [e6]
  show V m c main_v55 ((win0_6.blk t).view.emb (ix2 0 (at4 h d))) = _
  rw [he]
  exact ProjTables.gain_q m c h d

theorem gain_k_block (h : Fin 4) (d : Fin 64) : (iblk m c 7 t (ix2 0 (at4 h d)) : EReal) = m ((c : Thread nD τ).loc main_arg4) (ix1 d) := by
  have e7 := (idx t).2.2.2.2.2.2.2.1
  have he : (win0_7.blk t).view.emb (ix2 0 (at4 h d)) = (ix2 0 (at4 h d) : S1x256.Idx) := by blk_ext [e7]
  show V m c main_v59 ((win0_7.blk t).view.emb (ix2 0 (at4 h d))) = _
  rw [he]
  exact ProjTables.gain_k m c h d

theorem bias_block (e : Fin 512) : (iblk m c 8 t (ix2 0 e) : EReal) = m ((c : Thread nD τ).loc main_arg5) (ix1 e) := by
  have e8 := (idx t).2.2.2.2.2.2.2.2
  have he : (win0_8.blk t).view.emb (ix2 0 e) = (ix2 0 e : S1x512.Idx) := by blk_ext [e8]
  show V m c main_v60 ((win0_8.blk t).view.emb (ix2 0 e)) = _
  rw [he]
  exact ProjTables.bias m c e

/-- A column of all the projections, outside the retention's keys: the block's is the reference's. -/
theorem P_plain (r : Fin 512) (b : Fin 8) (q : Fin 4096) (hb : b = grid0.coords t 1) (hq : q.val = 512 * (grid0.coords t 0).val + r.val)
    (j : Fin 3328) (hj : j.val < 1280 ∨ 1792 ≤ j.val) :
    ProjBlock.P (iblk m c 0 t) (iblk m c 1 t) (iblk m c 2 t) r j
      = ProjRef.P (m ((c : Thread nD τ).loc main_arg0)) (m ((c : Thread nD τ).loc main_arg1)) (m ((c : Thread nD τ).loc main_arg2)) b q j := by
  unfold ProjBlock.P ProjRef.P
  have h0 := funext (x_block m c t r b q hb hq)
  have h1 := funext (gain_block m c t)
  have h2 := funext fun k => (weights_block m c t k j).trans (ProjTables.weights_plain m c k j hj)
  exact congr (congrArg₂ ProjRow.proj h0 h1) h2

/-- Among the retention's keys it is an eighth of the reference's. -/
theorem P_keys (r : Fin 512) (b : Fin 8) (q : Fin 4096) (hb : b = grid0.coords t 1) (hq : q.val = 512 * (grid0.coords t 0).val + r.val)
    (j : Fin 3328) (hj : 1280 ≤ j.val ∧ j.val < 1792) :
    ProjBlock.P (iblk m c 0 t) (iblk m c 1 t) (iblk m c 2 t) r j
      = ProjRef.P (m ((c : Thread nD τ).loc main_arg0)) (m ((c : Thread nD τ).loc main_arg1)) (m ((c : Thread nD τ).loc main_arg2)) b q j
        * ((1 / 8 : ℝ) : EReal) := by
  unfold ProjBlock.P ProjRef.P
  have h0 := funext (x_block m c t r b q hb hq)
  have h1 := funext (gain_block m c t)
  have h2 := funext fun k => (weights_block m c t k j).trans (ProjTables.weights_keys m c k j hj)
  exact (congr (congrArg₂ ProjRow.proj h0 h1) h2).trans (ProjAngle.sum_scaled _ _ _ (by norm_num))

end Blocks

/-! The eight arrays. -/

theorem final_q : (dats m 0 c).arrAt 9 cfg0.N
    = ProjRef.q (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  have eo := (idx_out t).1
  blk_simp
  rw [after0_9]
  obtain ⟨z, r, d, rfl⟩ : ∃ (z : Fin 1) (r : Fin 512) (d : Fin 256), y = ix3 z r d := ⟨y 0, y 1, y 2, (eq_ix3 y)⟩
  obtain rfl : z = 0 := Subsingleton.elim _ _
  obtain ⟨h, d, rfl⟩ := lane_head d
  have hg : (grid0.coords t 0).val < 8 := (grid0.coords t 0).isLt
  obtain ⟨b, hb⟩ : ∃ b : Fin 8, b = grid0.coords t 1 := ⟨_, rfl⟩
  obtain ⟨q, hq⟩ : ∃ q : Fin 4096, q.val = 512 * (grid0.coords t 0).val + r.val := ⟨⟨_, by omega⟩, rfl⟩
  have hi : (win0_9.blk t).view.emb (ix3 0 r (at4 h d)) = (ix3 b q (at4 h d) : S8x4096x256.Idx) := by blk_ext [eo]
  rw [hi]
  refine (ProjBlock.q_apply _ _ _ _ _ _ _ _ _ (ones_block m c t) r h d).trans (Eq.trans ?_ (ProjRef.q_apply _ _ _ b q _ h d).symm)
  refine congrArg (fun z : EReal => z * Ideal.ofBits .f32 0x3E38AA3B#32) (congrArg₂ (fun a b => ProjRow.headNorm a b d) (funext fun e => ?_) (funext fun e => ?_))
  · exact P_plain m c t r b q hb hq _ (by show 0 + (h.val * 64 + e.val) < 1280 ∨ 1792 ≤ 0 + (h.val * 64 + e.val); omega)
  · exact gain_q_block m c t h e

theorem final_k : (dats m 0 c).arrAt 10 cfg0.N
    = ProjRef.k (m ((c : Thread nD τ).loc main_arg0)) (m ((c : Thread nD τ).loc main_arg1)) (m ((c : Thread nD τ).loc main_arg2)) (m ((c : Thread nD τ).loc main_arg4)) := by
  refine (dats m 0 c).arrAt_eq_of_covers 10 _ (by decide +kernel) fun t hf y => ?_
  have eo := (idx_out t).2.1
  blk_simp
  rw [after0_10]
  obtain ⟨z, r, d, rfl⟩ : ∃ (z : Fin 1) (r : Fin 512) (d : Fin 256), y = ix3 z r d := ⟨y 0, y 1, y 2, (eq_ix3 y)⟩
  obtain rfl : z = 0 := Subsingleton.elim _ _
  obtain ⟨h, d, rfl⟩ := lane_head d
  have hg : (grid0.coords t 0).val < 8 := (grid0.coords t 0).isLt
  obtain ⟨b, hb⟩ : ∃ b : Fin 8, b = grid0.coords t 1 := ⟨_, rfl⟩
  obtain ⟨q, hq⟩ : ∃ q : Fin 4096, q.val = 512 * (grid0.coords t 0).val + r.val := ⟨⟨_, by omega⟩, rfl⟩
  have hi : (win0_10.blk t).view.emb (ix3 0 r (at4 h d)) = (ix3 b q (at4 h d) : S8x4096x256.Idx) := by blk_ext [eo]
  rw [hi]
  refine (ProjBlock.k_apply _ _ _ _ _ _ _ _ _ (ones_block m c t) r h d).trans (Eq.trans ?_ (ProjRef.k_apply _ _ _ b q _ h d).symm)
  refine congrArg₂ (fun a b => ProjRow.headNorm a b d) (funext fun e => ?_) (funext fun e => ?_)
  · exact P_plain m c t r b q hb hq _ (by show 256 + (h.val * 64 + e.val) < 1280 ∨ 1792 ≤ 256 + (h.val * 64 + e.val); omega)
  · exact gain_k_block m c t h e

theorem final_v : (dats m 0 c).arrAt 11 cfg0.N
    = ProjRef.v (m ((c : Thread nD τ).loc main_arg0)) (m ((c : Thread nD τ).loc main_arg1)) (m ((c : Thread nD τ).loc main_arg2)) := by
  refine (dats m 0 c).arrAt_eq_of_covers 11 _ (by decide +kernel) fun t hf y => ?_
  have eo := (idx_out t).2.2.1
  blk_simp
  rw [after0_11]
  obtain ⟨z, r, d, rfl⟩ : ∃ (z : Fin 1) (r : Fin 512) (d : Fin 256), y = ix3 z r d := ⟨y 0, y 1, y 2, (eq_ix3 y)⟩
  obtain rfl : z = 0 := Subsingleton.elim _ _
  have hg : (grid0.coords t 0).val < 8 := (grid0.coords t 0).isLt
  obtain ⟨b, hb⟩ : ∃ b : Fin 8, b = grid0.coords t 1 := ⟨_, rfl⟩
  obtain ⟨q, hq⟩ : ∃ q : Fin 4096, q.val = 512 * (grid0.coords t 0).val + r.val := ⟨⟨_, by omega⟩, rfl⟩
  have hi : (win0_11.blk t).view.emb (ix3 0 r d) = (ix3 b q d : S8x4096x256.Idx) := by blk_ext [eo]
  rw [hi]
  refine (ProjBlock.v_apply _ _ _ _ _ _ _ _ _ r d).trans (Eq.trans ?_ (ProjRef.v_apply _ _ _ b q d).symm)
  exact P_plain m c t r b q hb hq _ (by show 512 + d.val < 1280 ∨ 1792 ≤ 512 + d.val; omega)

theorem final_rq : (dats m 0 c).arrAt 12 cfg0.N
    = ProjRef.rq (m ((c : Thread nD τ).loc main_arg0)) (m ((c : Thread nD τ).loc main_arg1)) (m ((c : Thread nD τ).loc main_arg2)) := by
  refine (dats m 0 c).arrAt_eq_of_covers 12 _ (by decide +kernel) fun t hf y => ?_
  have eo := (idx_out t).2.2.2.1
  blk_simp
  rw [after0_12]
  obtain ⟨z, r, d, rfl⟩ : ∃ (z : Fin 1) (r : Fin 512) (d : Fin 512), y = ix3 z r d := ⟨y 0, y 1, y 2, (eq_ix3 y)⟩
  obtain rfl : z = 0 := Subsingleton.elim _ _
  obtain ⟨h, i, p, rfl⟩ := lane_pair d
  have hg : (grid0.coords t 0).val < 8 := (grid0.coords t 0).isLt
  obtain ⟨b, hb⟩ : ∃ b : Fin 8, b = grid0.coords t 1 := ⟨_, rfl⟩
  obtain ⟨q, hq⟩ : ∃ q : Fin 4096, q.val = 512 * (grid0.coords t 0).val + r.val := ⟨⟨_, by omega⟩, rfl⟩
  have hi : (win0_12.blk t).view.emb (ix3 0 r (at64 h (pair i p))) = (ix3 b q (at64 h (pair i p)) : S8x4096x512.Idx) := by blk_ext [eo]
  rw [hi]
  refine (ProjBlock.rq_apply _ _ _ _ _ _ _ _ _ _ r h i p (cos_block m c t r q hq h i p) (sin_block m c t r q hq h i p)).trans
    (Eq.trans ?_ (ProjRef.rq_apply _ _ _ b q h i p).symm)
  refine congrArg₂ (fun a b => ProjAngle.side a b (ProjAngle.ang q.val i.val) p) ?_ ?_
  · exact P_plain m c t r b q hb hq _ (by show 768 + (h.val * 64 + (i.val * 2 + 0)) < 1280 ∨ 1792 ≤ 768 + (h.val * 64 + (i.val * 2 + 0)); omega)
  · exact P_plain m c t r b q hb hq _ (by show 768 + (h.val * 64 + (i.val * 2 + 1)) < 1280 ∨ 1792 ≤ 768 + (h.val * 64 + (i.val * 2 + 1)); omega)

theorem final_rk : (dats m 0 c).arrAt 13 cfg0.N
    = ProjRef.rk (m ((c : Thread nD τ).loc main_arg0)) (m ((c : Thread nD τ).loc main_arg1)) (m ((c : Thread nD τ).loc main_arg2)) := by
  refine (dats m 0 c).arrAt_eq_of_covers 13 _ (by decide +kernel) fun t hf y => ?_
  have eo := (idx_out t).2.2.2.2.1
  blk_simp
  rw [after0_13]
  obtain ⟨z, r, d, rfl⟩ : ∃ (z : Fin 1) (r : Fin 512) (d : Fin 512), y = ix3 z r d := ⟨y 0, y 1, y 2, (eq_ix3 y)⟩
  obtain rfl : z = 0 := Subsingleton.elim _ _
  obtain ⟨h, i, p, rfl⟩ := lane_pair d
  have hg : (grid0.coords t 0).val < 8 := (grid0.coords t 0).isLt
  obtain ⟨b, hb⟩ : ∃ b : Fin 8, b = grid0.coords t 1 := ⟨_, rfl⟩
  obtain ⟨q, hq⟩ : ∃ q : Fin 4096, q.val = 512 * (grid0.coords t 0).val + r.val := ⟨⟨_, by omega⟩, rfl⟩
  have hi : (win0_13.blk t).view.emb (ix3 0 r (at64 h (pair i p))) = (ix3 b q (at64 h (pair i p)) : S8x4096x512.Idx) := by blk_ext [eo]
  rw [hi]
  refine (ProjBlock.rk_apply _ _ _ _ _ _ _ _ _ _ r h i p (cos_block m c t r q hq h i p) (sin_block m c t r q hq h i p)).trans
    (Eq.trans ?_ (ProjRef.rk_apply _ _ _ b q h i p).symm)
  refine Eq.trans ?_ (ProjAngle.side_scaled _ _ _ p (1 / 8) (by norm_num))
  refine congrArg₂ (fun a b => ProjAngle.side a b (ProjAngle.ang q.val i.val) p) ?_ ?_
  · exact P_keys m c t r b q hb hq _ (by show 1280 ≤ 1280 + (h.val * 64 + (i.val * 2 + 0)) ∧ 1280 + (h.val * 64 + (i.val * 2 + 0)) < 1792; omega)
  · exact P_keys m c t r b q hb hq _ (by show 1280 ≤ 1280 + (h.val * 64 + (i.val * 2 + 1)) ∧ 1280 + (h.val * 64 + (i.val * 2 + 1)) < 1792; omega)

theorem final_rv : (dats m 0 c).arrAt 14 cfg0.N
    = ProjRef.rv (m ((c : Thread nD τ).loc main_arg0)) (m ((c : Thread nD τ).loc main_arg1)) (m ((c : Thread nD τ).loc main_arg2)) := by
  refine (dats m 0 c).arrAt_eq_of_covers 14 _ (by decide +kernel) fun t hf y => ?_
  have eo := (idx_out t).2.2.2.2.2.1
  blk_simp
  rw [after0_14]
  obtain ⟨z, r, d, rfl⟩ : ∃ (z : Fin 1) (r : Fin 512) (d : Fin 512), y = ix3 z r d := ⟨y 0, y 1, y 2, (eq_ix3 y)⟩
  obtain rfl : z = 0 := Subsingleton.elim _ _
  have hg : (grid0.coords t 0).val < 8 := (grid0.coords t 0).isLt
  obtain ⟨b, hb⟩ : ∃ b : Fin 8, b = grid0.coords t 1 := ⟨_, rfl⟩
  obtain ⟨q, hq⟩ : ∃ q : Fin 4096, q.val = 512 * (grid0.coords t 0).val + r.val := ⟨⟨_, by omega⟩, rfl⟩
  have hi : (win0_14.blk t).view.emb (ix3 0 r d) = (ix3 b q d : S8x4096x512.Idx) := by blk_ext [eo]
  rw [hi]
  refine (ProjBlock.rv_apply _ _ _ _ _ _ _ _ _ r d).trans (Eq.trans ?_ (ProjRef.rv_apply _ _ _ b q d).symm)
  exact P_plain m c t r b q hb hq _ (by show 1792 + d.val < 1280 ∨ 1792 ≤ 1792 + d.val; omega)

theorem final_sg : (dats m 0 c).arrAt 15 cfg0.N
    = ProjRef.sg (m ((c : Thread nD τ).loc main_arg0)) (m ((c : Thread nD τ).loc main_arg1)) (m ((c : Thread nD τ).loc main_arg2)) := by
  refine (dats m 0 c).arrAt_eq_of_covers 15 _ (by decide +kernel) fun t hf y => ?_
  have eo := (idx_out t).2.2.2.2.2.2.1
  blk_simp
  rw [after0_15]
  obtain ⟨z, r, d, rfl⟩ : ∃ (z : Fin 1) (r : Fin 512) (d : Fin 512), y = ix3 z r d := ⟨y 0, y 1, y 2, (eq_ix3 y)⟩
  obtain rfl : z = 0 := Subsingleton.elim _ _
  have hg : (grid0.coords t 0).val < 8 := (grid0.coords t 0).isLt
  obtain ⟨b, hb⟩ : ∃ b : Fin 8, b = grid0.coords t 1 := ⟨_, rfl⟩
  obtain ⟨q, hq⟩ : ∃ q : Fin 4096, q.val = 512 * (grid0.coords t 0).val + r.val := ⟨⟨_, by omega⟩, rfl⟩
  have hi : (win0_15.blk t).view.emb (ix3 0 r d) = (ix3 b q d : S8x4096x512.Idx) := by blk_ext [eo]
  rw [hi]
  refine (ProjBlock.sg_apply _ _ _ _ _ _ _ _ _ r d).trans (Eq.trans ?_ (ProjRef.sg_apply _ _ _ b q d).symm)
  refine congrArg (fun z : EReal => z * ProjRow.gate z) ?_
  exact P_plain m c t r b q hb hq _ (by show 2304 + d.val < 1280 ∨ 1792 ≤ 2304 + d.val; omega)

theorem final_hg : (dats m 0 c).arrAt 16 cfg0.N
    = ProjRef.hg (m ((c : Thread nD τ).loc main_arg0)) (m ((c : Thread nD τ).loc main_arg1)) (m ((c : Thread nD τ).loc main_arg2)) (m ((c : Thread nD τ).loc main_arg5)) := by
  refine (dats m 0 c).arrAt_eq_of_covers 16 _ (by decide +kernel) fun t hf y => ?_
  have eo := (idx_out t).2.2.2.2.2.2.2
  blk_simp
  rw [after0_16]
  obtain ⟨z, r, d, rfl⟩ : ∃ (z : Fin 1) (r : Fin 512) (d : Fin 256), y = ix3 z r d := ⟨y 0, y 1, y 2, (eq_ix3 y)⟩
  obtain rfl : z = 0 := Subsingleton.elim _ _
  have hg : (grid0.coords t 0).val < 8 := (grid0.coords t 0).isLt
  obtain ⟨b, hb⟩ : ∃ b : Fin 8, b = grid0.coords t 1 := ⟨_, rfl⟩
  obtain ⟨q, hq⟩ : ∃ q : Fin 4096, q.val = 512 * (grid0.coords t 0).val + r.val := ⟨⟨_, by omega⟩, rfl⟩
  have hi : (win0_16.blk t).view.emb (ix3 0 r d) = (ix3 b q d : S8x4096x256.Idx) := by blk_ext [eo]
  rw [hi]
  refine (ProjBlock.hg_apply _ _ _ _ _ _ _ _ _ r d).trans (Eq.trans ?_ (ProjRef.hg_apply _ _ _ b q _ d).symm)
  refine congrArg₂ (fun x y : EReal => x * ProjRow.gate y) (congrArg₂ (fun x y : EReal => x + y) ?_ ?_) (congrArg₂ (fun x y : EReal => x + y) ?_ ?_)
  · exact P_plain m c t r b q hb hq _ (by show 2816 + d.val < 1280 ∨ 1792 ≤ 2816 + d.val; omega)
  · exact bias_block m c t _
  · exact P_plain m c t r b q hb hq _ (by show 3072 + d.val < 1280 ∨ 1792 ≤ 3072 + d.val; omega)
  · exact bias_block m c t _

end Cert.Proof.ProjArray

end
-- ==== Proof.ProjRun.lean ====
/-
  THE REFERENCE'S RESULTS AS ITS RUN STATES THEM are those of `ProjRef.lean`: the run's named terms, one by one, and the results.
-/
module

public import proofs.«01_k».proof.Proof.ProjRef

@[expose] public section

set_option maxRecDepth 16384

noncomputable section

namespace Cert.Proof.ProjRun

open Idealize.ShloMosaic Idealize.ShloMosaic.TcCoe Cert.Reference2Ideal Cert.Reference2Ideal.Gen Cert.Reference2Ideal.Value Cert.Proof

variable (V0 : Valuation τ sig (Elt Ideal))

theorem all_eq : res_main_v14 V0 = ProjRef.all (V0 (Proc.devRef .tc main_arg0)) (V0 (Proc.devRef .tc main_arg1)) (V0 (Proc.devRef .tc main_arg2)) := rfl

theorem ang_eq : res_main_v66 V0 = ProjRef.ang := by
  unfold res_main_v66 ProjRef.ang ProjRef.lin res_main_call0_v0 res_main_call0_v1 res_main_call0_v6 res_main_v0
  rfl

theorem ang_eq' : res_main_v103 V0 = ProjRef.ang := by
  unfold res_main_v103 ProjRef.ang ProjRef.lin res_main_call1_v0 res_main_call1_v1 res_main_call1_v6 res_main_v0
  rfl

/-- The pairs' two sides turned by the two tables and laid alternately. -/
def turn (a b : FVec Ideal S8x8x4096x32 .f32) (c s : FVec Ideal S4096x32 .f32) : FVec Ideal S8x8x4096x64 .f32 :=
  shapeCast _ (concatenate S8x8x4096x32x2 4
    [⟨S8x8x4096x32x1, (broadcastInDim S8x8x4096x32x1 ![0, 1, 2, 3] bcast_S8x8x4096x32_S8x8x4096x32x1_0_1_2_3
        (subf (mulf a (ProjRef.spread c)) (mulf b (ProjRef.spread s))))⟩,
      ⟨S8x8x4096x32x1, (broadcastInDim S8x8x4096x32x1 ![0, 1, 2, 3] bcast_S8x8x4096x32_S8x8x4096x32x1_0_1_2_3
        (addf (mulf a (ProjRef.spread s)) (mulf b (ProjRef.spread c))))⟩]
    concatenates_S8x8x4096x32x1_S8x8x4096x32x1_S8x8x4096x32x2_d4) shapeCasts_S8x8x4096x32x2_S8x8x4096x64

theorem turned_queries : turn (res_main_v69 V0) (res_main_v70 V0) (res_main_v67 V0) (res_main_v68 V0)
    = ProjRef.rotated (ProjRef.heads (extractStridedSlice S8x4096x512 ![0, 0, 768] (res_main_v14 V0) slices_S8x4096x3328_S8x4096x512_0_0_768)) := by
  unfold res_main_v67 res_main_v68
  rw [ang_eq]
  unfold res_main_v69 res_main_v70 res_main_v55 ProjRef.rotated turn ProjRef.heads
  rfl

theorem turned_keys : turn (res_main_v106 V0) (res_main_v107 V0) (res_main_v104 V0) (res_main_v105 V0)
    = ProjRef.rotated (ProjRef.heads (extractStridedSlice S8x4096x512 ![0, 0, 1280] (res_main_v14 V0) slices_S8x4096x3328_S8x4096x512_0_0_1280)) := by
  unfold res_main_v104 res_main_v105
  rw [ang_eq']
  unfold res_main_v106 res_main_v107 res_main_v92 ProjRef.rotated turn ProjRef.heads
  rfl

theorem rq_eq : (truncf .bf16 (ProjRef.joined (turn (res_main_v69 V0) (res_main_v70 V0) (res_main_v67 V0) (res_main_v68 V0))) bitsLt_bf16_f32 : FVec Ideal S8x4096x512 .bf16)
    = ProjRef.rq (V0 (Proc.devRef .tc main_arg0)) (V0 (Proc.devRef .tc main_arg1)) (V0 (Proc.devRef .tc main_arg2)) := by
  rw [turned_queries, all_eq]
  unfold ProjRef.rq
  rfl

theorem rk_eq : (truncf .bf16 (ProjRef.joined (mulf (turn (res_main_v106 V0) (res_main_v107 V0) (res_main_v104 V0) (res_main_v105 V0))
      (broadcastInDim S8x8x4096x64 ![] bcast_S_S8x8x4096x64 (constant S_ .f32 0x3E000000#32)))) bitsLt_bf16_f32 : FVec Ideal S8x4096x512 .bf16)
    = ProjRef.rk (V0 (Proc.devRef .tc main_arg0)) (V0 (Proc.devRef .tc main_arg1)) (V0 (Proc.devRef .tc main_arg2)) := by
  rw [turned_keys, all_eq]
  unfold ProjRef.rk
  rfl

/-- A projection of four heads, its heads apart, normed. -/
theorem normed_eq (u : FVec Ideal S8x4096x256 .f32) (v : FVec Ideal S8x4096x4x64 .f32) (g : FVec Ideal S64 .f32)
    (hv : v = shapeCast _ u shapeCasts_S8x4096x256_S8x4096x4x64) :
    (shapeCast _ (mulf (mulf v (broadcastInDim S8x4096x4x64 ![0, 1, 2, 3] bcast_S8x4096x4x1_S8x4096x4x64_0_1_2_3 (Host.rsqrt (addf (Host.divf
      (broadcastInDim S8x4096x4x1 ![0, 1, 2] bcast_S8x4096x4_S8x4096x4x1_0_1_2 (Host.reduceAdd (mulf v v) (constant S_ .f32 0x00000000#32) reducesTo_S8x4096x4x64_S8x4096x4_d3 h_S_))
      (broadcastInDim S8x4096x4x1 ![] bcast_S_S8x4096x4x1 (constant S_ .f32 0x42800000#32)))
      (broadcastInDim S8x4096x4x1 ![] bcast_S_S8x4096x4x1 (constant S_ .f32 0x358637BD#32))))))
    (broadcastInDim S8x4096x4x64 ![0, 1, 2, 3] bcast_S1x1x1x64_S8x4096x4x64_0_1_2_3 (broadcastInDim S1x1x1x64 ![3] bcast_S64_S1x1x1x64_3 g)))
    shapeCasts_S8x4096x4x64_S8x4096x256 : FVec Ideal S8x4096x256 .f32) = ProjRef.headNorm u g := by
  subst hv
  rfl

theorem q_of (z : FVec Ideal S8x4096x256 .f32) (gq : FVec Ideal S64 .f32)
    (hz : z = ProjRef.headNorm (extractStridedSlice S8x4096x256 ![0, 0, 0] (res_main_v14 V0) slices_S8x4096x3328_S8x4096x256_0_0_0) gq) :
    (truncf .bf16 (mulf z (broadcastInDim S8x4096x256 ![] bcast_S_S8x4096x256 (constant S_ .f32 0x3E38AA3B#32))) bitsLt_bf16_f32 : FVec Ideal S8x4096x256 .bf16)
      = ProjRef.q (V0 (Proc.devRef .tc main_arg0)) (V0 (Proc.devRef .tc main_arg1)) (V0 (Proc.devRef .tc main_arg2)) gq := by
  subst hz
  rw [all_eq]
  unfold ProjRef.q
  rfl

theorem k_of (z : FVec Ideal S8x4096x256 .f32) (gk : FVec Ideal S64 .f32)
    (hz : z = ProjRef.headNorm (extractStridedSlice S8x4096x256 ![0, 0, 256] (res_main_v14 V0) slices_S8x4096x3328_S8x4096x256_0_0_256) gk) :
    (truncf .bf16 z bitsLt_bf16_f32 : FVec Ideal S8x4096x256 .bf16) = ProjRef.k (V0 (Proc.devRef .tc main_arg0)) (V0 (Proc.devRef .tc main_arg1)) (V0 (Proc.devRef .tc main_arg2)) gk := by
  subst hz
  rw [all_eq]
  unfold ProjRef.k
  rfl

theorem v_eq : (truncf .bf16 (extractStridedSlice S8x4096x256 ![0, 0, 512] (res_main_v14 V0) slices_S8x4096x3328_S8x4096x256_0_0_512) bitsLt_bf16_f32 : FVec Ideal S8x4096x256 .bf16)
    = ProjRef.v (V0 (Proc.devRef .tc main_arg0)) (V0 (Proc.devRef .tc main_arg1)) (V0 (Proc.devRef .tc main_arg2)) := by
  rw [all_eq]
  unfold ProjRef.v
  rfl

theorem rv_eq : (truncf .bf16 (extractStridedSlice S8x4096x512 ![0, 0, 1792] (res_main_v14 V0) slices_S8x4096x3328_S8x4096x512_0_0_1792) bitsLt_bf16_f32 : FVec Ideal S8x4096x512 .bf16)
    = ProjRef.rv (V0 (Proc.devRef .tc main_arg0)) (V0 (Proc.devRef .tc main_arg1)) (V0 (Proc.devRef .tc main_arg2)) := by
  rw [all_eq]
  unfold ProjRef.rv
  rfl

theorem sg_eq : (truncf .bf16 (mulf (res_main_v21 V0) (ProjRef.sigmoid (res_main_v21 V0))) bitsLt_bf16_f32 : FVec Ideal S8x4096x512 .bf16)
    = ProjRef.sg (V0 (Proc.devRef .tc main_arg0)) (V0 (Proc.devRef .tc main_arg1)) (V0 (Proc.devRef .tc main_arg2)) := by
  unfold res_main_v21
  rw [all_eq]
  unfold ProjRef.sg
  rfl

theorem hg_eq (cb : FVec Ideal S512 .f32) : (truncf .bf16 (mulf
    (addf (extractStridedSlice S8x4096x256 ![0, 0, 2816] (res_main_v14 V0) slices_S8x4096x3328_S8x4096x256_0_0_2816)
      (ProjRef.bias (extractStridedSlice S256 ![0] cb slices_S512_S256_0)))
    (ProjRef.sigmoid4 (addf (extractStridedSlice S8x4096x256 ![0, 0, 3072] (res_main_v14 V0) slices_S8x4096x3328_S8x4096x256_0_0_3072)
      (ProjRef.bias (extractStridedSlice S256 ![256] cb slices_S512_S256_256))))) bitsLt_bf16_f32 : FVec Ideal S8x4096x256 .bf16)
    = ProjRef.hg (V0 (Proc.devRef .tc main_arg0)) (V0 (Proc.devRef .tc main_arg1)) (V0 (Proc.devRef .tc main_arg2)) cb := by
  rw [all_eq]
  unfold ProjRef.hg
  rfl

end Cert.Proof.ProjRun

end
-- ==== Proof.ProjValue.lean ====
/-
  THE PROJECTIONS' VALUE CLAIM: the eight arrays the kernel leaves (`ProjArray.lean`) are the reference's eight results, which
  `ProjRef.lean` states in the reference's own operations.
-/
module

public import proofs.«01_k».proof.Defs
public import proofs.«01_k».proof.Proof.ProjArray
public import proofs.«01_k».proof.Proof.ProjRun
public import Idealize.ShloMosaic.Adequacy
public import Idealize.ShloMosaic.Init

@[expose] public section

set_option maxRecDepth 16384
set_option maxHeartbeats 4000000

noncomputable section

namespace Cert.Proof.ProjValue

open Idealize.ShloMosaic Idealize.SL.Sem Cert.Proof

theorem algebraic : Cert.algebraic_Kernel2Ideal_Reference2Ideal := fun m g m' g' _ h =>
  ⟨fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N,
    fun c => (Cert.Kernel2Ideal.Gen.dats m 0 c).arrAt 15 Cert.Kernel2Ideal.cfg0.N,
    fun c => (Cert.Kernel2Ideal.Gen.dats m 0 c).arrAt 16 Cert.Kernel2Ideal.cfg0.N,
    Cert.Kernel2Ideal.Value.run_blocks m g,
    (θ_run Cert.Reference2Ideal.defs _ _).mono (fun _ hr c => by
      obtain ⟨r0, r1, r2, r3, r4, r5, r6, r7, kept⟩ := hr c
      obtain ⟨h0, h1, h2, h3, h4, h5⟩ := h c
      have s0 : ProjRef.q (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3))
          = (Cert.Kernel2Ideal.Gen.dats m 0 c).arrAt 9 Cert.Kernel2Ideal.cfg0.N := by
        rw [ProjArray.final_q m c, h0, h1, h2, h3]
      have s1 : ProjRef.k (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg4))
          = (Cert.Kernel2Ideal.Gen.dats m 0 c).arrAt 10 Cert.Kernel2Ideal.cfg0.N := by
        rw [ProjArray.final_k m c, h0, h1, h2, h4]
      have s2 : ProjRef.v (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))
          = (Cert.Kernel2Ideal.Gen.dats m 0 c).arrAt 11 Cert.Kernel2Ideal.cfg0.N := by
        rw [ProjArray.final_v m c, h0, h1, h2]
      have s3 : ProjRef.rq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))
          = (Cert.Kernel2Ideal.Gen.dats m 0 c).arrAt 12 Cert.Kernel2Ideal.cfg0.N := by
        rw [ProjArray.final_rq m c, h0, h1, h2]
      have s4 : ProjRef.rk (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))
          = (Cert.Kernel2Ideal.Gen.dats m 0 c).arrAt 13 Cert.Kernel2Ideal.cfg0.N := by
        rw [ProjArray.final_rk m c, h0, h1, h2]
      have s5 : ProjRef.rv (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))
          = (Cert.Kernel2Ideal.Gen.dats m 0 c).arrAt 14 Cert.Kernel2Ideal.cfg0.N := by
        rw [ProjArray.final_rv m c, h0, h1, h2]
      have s6 : ProjRef.sg (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))
          = (Cert.Kernel2Ideal.Gen.dats m 0 c).arrAt 15 Cert.Kernel2Ideal.cfg0.N := by
        rw [ProjArray.final_sg m c, h0, h1, h2]
      have s7 : ProjRef.hg (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg5))
          = (Cert.Kernel2Ideal.Gen.dats m 0 c).arrAt 16 Cert.Kernel2Ideal.cfg0.N := by
        rw [ProjArray.final_hg m c, h0, h1, h2, h5]
      exact ⟨(r0.trans (ProjRun.q_of _ _ _ (ProjRun.normed_eq _ _ _ rfl))).trans s0,
        (r1.trans (ProjRun.k_of _ _ _ (ProjRun.normed_eq _ _ _ rfl))).trans s1, (r2.trans (ProjRun.v_eq _)).trans s2,
        (r3.trans (ProjRun.rq_eq _)).trans s3, (r4.trans (ProjRun.rk_eq _)).trans s4, (r5.trans (ProjRun.rv_eq _)).trans s5,
        (r6.trans (ProjRun.sg_eq _)).trans s6, (r7.trans (ProjRun.hg_eq _ _)).trans s7, kept⟩)
      (Cert.Reference2Ideal.Value.run m' g')⟩

end Cert.Proof.ProjValue

end
-- ==== Proof.MlpRow.lean ====
/-
  ONE ROW OF THE LAYER'S CLOSING HALF, over the extended reals: what the out-projection, the residual, the RMS norm and
  the squared-ReLU feed-forward make of one position of the sequence. Both programs are shown to hold exactly this row at
  every position (`MlpBlock.lean` for one grid point of the kernel, `MlpRef.lean` for the reference).
-/
module

public import Idealize.ShloMosaic.PureOps.Ideal
public import Idealize.ShloMosaic.Lib.Pointwise.Tactic
public import Idealize.ShloMosaic.Lib.Pointwise.Sums

@[expose] public section

noncomputable section

namespace Cert.Proof.MlpRow

open Idealize.ShloMosaic
open scoped BigOperators

/-- The three mixers' outputs side by side: 256 columns of attention, 512 of retention, 256 of convolution. -/
def mix (sb : Fin 256 → EReal) (ret : Fin 512 → EReal) (conv : Fin 256 → EReal) (k : Fin 1024) : EReal :=
  if h : k.val < 256 then sb ⟨k.val, h⟩
  else if h' : k.val - 256 < 512 then ret ⟨k.val - 256, h'⟩
  else conv ⟨k.val - 256 - 512, by have := k.isLt; omega⟩

/-- The residual stream after the out-projection. -/
def stream (x mixed : Fin 1024 → EReal) (wo : Fin 1024 → Fin 1024 → EReal) (d : Fin 1024) : EReal :=
  x d + ∑ k : Fin 1024, mixed k * wo k d

/-- The RMS norm of a row `s`, with gain `g`. -/
def norm (s g : Fin 1024 → EReal) (d : Fin 1024) : EReal :=
  s d * Ideal.rsqrt (Ideal.div (∑ k : Fin 1024, s k * s k) (Ideal.ofBits .f32 0x44800000#32)
    + Ideal.ofBits .f32 0x358637BD#32) * g d

/-- One hidden unit: the squared ReLU of the normed row against its column `w` of the first feed-forward matrix. -/
def unit (h w : Fin 1024 → EReal) : EReal :=
  max (∑ k : Fin 1024, h k * w k) 0 * max (∑ k : Fin 1024, h k * w k) 0

/-- The row the layer leaves: the stream plus the feed-forward of its norm, all 4096 hidden units in one sum. -/
def out (s h : Fin 1024 → EReal) (w1 : Fin 1024 → Fin 4096 → EReal) (w2 : Fin 4096 → Fin 1024 → EReal) (d : Fin 1024) : EReal :=
  s d + ∑ f : Fin 4096, unit h (fun k => w1 k f) * w2 f d

/-- Adding the feed-forward up 1024 hidden units at a time, quarter after quarter, gives the same row: addition of
    extended reals is associative. -/
theorem out_quarters (s h : Fin 1024 → EReal) (w1 : Fin 1024 → Fin 4096 → EReal) (w2 : Fin 4096 → Fin 1024 → EReal) (d : Fin 1024) :
    out s h w1 w2 d
      = s d + (∑ f : Fin 1024, unit h (fun k => w1 k ⟨f.val, by omega⟩) * w2 ⟨f.val, by omega⟩ d)
        + (∑ f : Fin 1024, unit h (fun k => w1 k ⟨1024 + f.val, by omega⟩) * w2 ⟨1024 + f.val, by omega⟩ d)
        + (∑ f : Fin 1024, unit h (fun k => w1 k ⟨2048 + f.val, by omega⟩) * w2 ⟨2048 + f.val, by omega⟩ d)
        + (∑ f : Fin 1024, unit h (fun k => w1 k ⟨3072 + f.val, by omega⟩) * w2 ⟨3072 + f.val, by omega⟩ d) := by
  unfold out
  rw [Fin.sum_univ_tiles 4 1024 rfl]
  simp only [Fin.sum_univ_four, add_assoc]
  simp

end Cert.Proof.MlpRow

end
-- ==== Proof.MlpBlock.lean ====
/-
  WHAT ONE GRID POINT COMPUTES: the payload of the kernel's one store, read at an index of the point's block, is the row
  of `MlpRow.lean` of the blocks the point loads.
-/
module

public import proofs.«01_k».proof.Proof.Gen.Kernel3Ideal.Skeleton
public import proofs.«01_k».proof.Proof.MlpRow
public import Idealize.ShloMosaic.Lib.Pointwise

@[expose] public section

noncomputable section

namespace Cert.Proof.MlpBlock

open Idealize.ShloMosaic Cert.Kernel3Ideal Cert.Kernel3Ideal.Gen Cert.Proof
open scoped BigOperators

variable (sb : Vec Ideal S1x512x256 .bf16) (ret : Vec Ideal S1x512x512 .bf16) (conv : Vec Ideal S1x512x256 .bf16)
variable (x : Vec Ideal S1x512x1024 .f32) (wo : Vec Ideal S1024x1024 .bf16) (g : Vec Ideal S1x1024 .f32)

/-- Row `r` of the block after the out-projection. -/
theorem stream_apply (r : Fin 512) (d : Fin 1024) :
    k0_pay2 sb ret conv x wo (ix2 r d)
      = MlpRow.stream (fun e => x (ix3 0 r e)) (MlpRow.mix (fun k => sb (ix3 0 r k)) (fun k => ret (ix3 0 r k)) (fun k => conv (ix3 0 r k)))
          (fun k e => wo (ix2 k e)) d := by
  pointwise [k0_pay2, dot_S512x1024_S1024x1024_S512x1024_1_0_0_1_n_n]
  rfl

/-- Row `r` of the block after the norm. -/
theorem norm_apply (r : Fin 512) (d : Fin 1024) :
    k0_pay3 sb ret conv x wo g (ix2 r d)
      = MlpRow.norm (fun e => k0_pay2 sb ret conv x wo (ix2 r e)) (fun e => g (ix2 0 e)) d := by
  pointwise [k0_pay3]
  rfl

/-- The first quarter of the hidden units of row `r`. -/
theorem unit_apply (w : Vec Ideal S1024x1024 .bf16) (r : Fin 512) (f : Fin 1024) :
    k0_pay4 sb ret conv x wo g w (ix2 r f)
      = MlpRow.unit (fun e => k0_pay3 sb ret conv x wo g (ix2 r e)) (fun k => w (ix2 k f)) := by
  pointwise [k0_pay4, dot_S512x1024_S1024x1024_S512x1024_1_0_0_1_n_n]
  rfl

/-- The store's payload from the values before it: the stream plus the four quarters of the feed-forward, in order. -/
theorem store_apply (s u : FVec Ideal S512x1024 .f32) (h : FVec Ideal S512x1024 .bf16)
    (v0 w1 v1 w2 v2 w3 v3 : Vec Ideal S1024x1024 .bf16) (r : Fin 512) (d : Fin 1024) :
    k0_pay1 (k0_pay5 s h u v0 w1 v1 w2 v2) (k0_pay6 h w3) (k0_pay7 v3) (constant S512x1024 .f32 0x00000000#32) (ix3 0 r d)
      = s (ix2 r d) + (∑ f : Fin 1024, u (ix2 r f) * v0 (ix2 f d))
        + (∑ f : Fin 1024, MlpRow.unit (fun e => h (ix2 r e)) (fun k => w1 (ix2 k f)) * v1 (ix2 f d))
        + (∑ f : Fin 1024, MlpRow.unit (fun e => h (ix2 r e)) (fun k => w2 (ix2 k f)) * v2 (ix2 f d))
        + (∑ f : Fin 1024, MlpRow.unit (fun e => h (ix2 r e)) (fun k => w3 (ix2 k f)) * v3 (ix2 f d)) := by
  pointwise [k0_pay1, k0_pay5, k0_pay6, k0_pay7, dot_S512x1024_S1024x1024_S512x1024_1_0_0_1_n_n]
  rfl

end Cert.Proof.MlpBlock

end
-- ==== Proof.MlpArray.lean ====
/-
  WHAT THE RESULT ARRAY HOLDS: after the run, position (b, t) of the kernel's result is the row of `MlpRow.lean` of the
  argument arrays at that position. Every grid point writes its own block of 512 positions of one batch member, and the
  blocks tile the array.
-/
module

public import proofs.«01_k».proof.Proof.Gen.Kernel3Ideal.Value
public import proofs.«01_k».proof.Proof.MlpBlock
public import Idealize.ShloMosaic.Lib.Pipeline.ValueKit
public import Idealize.ShloMosaic.Lib.Pointwise

@[expose] public section

noncomputable section

namespace Cert.Proof.MlpArray

open Idealize.ShloMosaic Idealize.ShloMosaic.TcCoe Cert.Kernel3Ideal Cert.Kernel3Ideal.Gen Cert.Proof
open scoped BigOperators

/-- The whole result as a function of the eight argument arrays. -/
def layer (x : FVec Ideal S8x4096x1024 .f32) (sb : FVec Ideal S8x4096x256 .bf16) (ret : FVec Ideal S8x4096x512 .bf16)
    (conv : FVec Ideal S8x4096x256 .bf16) (wo : FVec Ideal S1024x1024 .f32) (g : FVec Ideal S1024 .f32)
    (w1 : FVec Ideal S1024x4096 .f32) (w2 : FVec Ideal S4096x1024 .f32) : FVec Ideal S8x4096x1024 .f32 := fun i =>
  let s := MlpRow.stream (fun e => x (ix3 (i 0) (i 1) e))
    (MlpRow.mix (fun k => sb (ix3 (i 0) (i 1) k)) (fun k => ret (ix3 (i 0) (i 1) k)) (fun k => conv (ix3 (i 0) (i 1) k)))
    (fun k e => wo (ix2 k e))
  MlpRow.out s (MlpRow.norm s (fun e => g (ix1 e))) (fun k f => w1 (ix2 k f)) (fun f e => w2 (ix2 f e)) (i 2)

/-- One point's result from its blocks: the row of `MlpRow.lean` of the blocks, at every position of the block. -/
theorem out_apply (x0 : Vec Ideal S1x512x1024 .f32) (x1 : Vec Ideal S1x512x256 .bf16) (x2 : Vec Ideal S1x512x512 .bf16)
    (x3 : Vec Ideal S1x512x256 .bf16) (x4 : Vec Ideal S1024x1024 .bf16) (x5 : Vec Ideal S1x1024 .f32)
    (x6 : Vec Ideal S1024x4096 .bf16) (x7 : Vec Ideal S4096x1024 .bf16) (r : Fin 512) (d : Fin 1024) :
    out0_8 x0 x1 x2 x3 x4 x5 x6 x7 (ix3 0 r d)
      = MlpRow.out (MlpRow.stream (fun e => x0 (ix3 0 r e))
            (MlpRow.mix (fun k => x1 (ix3 0 r k)) (fun k => x2 (ix3 0 r k)) (fun k => x3 (ix3 0 r k))) (fun k e => x4 (ix2 k e)))
          (MlpRow.norm (MlpRow.stream (fun e => x0 (ix3 0 r e))
            (MlpRow.mix (fun k => x1 (ix3 0 r k)) (fun k => x2 (ix3 0 r k)) (fun k => x3 (ix3 0 r k))) (fun k e => x4 (ix2 k e)))
            (fun e => x5 (ix2 0 e)))
          (fun k f => x6 (ix2 k f)) (fun f e => x7 (ix2 f e)) d := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_8 k0_pay8
  rw [View.canon_unit_zero hz3, View.ld_unit_zero hz3 _ x0, View.ld_unit_zero hz3 _ x1, View.ld_unit_zero hz3 _ x2,
    View.ld_unit_zero hz3 _ x3, View.ld_unit_zero hz2 _ x4]
  rw [MlpBlock.store_apply, MlpRow.out_quarters]
  simp only [MlpBlock.unit_apply, MlpBlock.norm_apply, MlpBlock.stream_apply]
  pointwise

/-- Where each window stands at each point: the row blocks at (batch member, eighth), the weights whole. -/
theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![0, 0] ∧ win0_5.index t = ![0, 0] ∧ win0_6.index t = ![0, 0] ∧ win0_7.index t = ![0, 0]
    ∧ win0_8.index t = ![(grid0.coords t 0).val, (grid0.coords t 1).val, 0] := by decide +kernel

variable (m : (ℓ : Loc nD τ sig) → Buf (Elt Ideal) ℓ) (c : Dev nD)

/-- The result array after the run. -/
theorem final :
    (dats m 0 c).arrAt 8 cfg0.N
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 8 _ (by decide +kernel) fun t hf y => ?_
  obtain ⟨e0, e1, e2, e3, e4, e5, e6, e7, e8⟩ := idx t
  blk_simp
  rw [after0_8]
  obtain ⟨z, r, d, rfl⟩ : ∃ (z : Fin 1) (r : Fin 512) (d : Fin 1024), y = ix3 z r d := ⟨y 0, y 1, y 2, (eq_ix3 y)⟩
  obtain rfl : z = 0 := Subsingleton.elim _ _
  refine (out_apply _ _ _ _ _ _ _ _ r d).trans ?_
  have hq : (grid0.coords t 1).val < 8 := (grid0.coords t 1).isLt
  obtain ⟨b, hb⟩ : ∃ b : Fin 8, b = grid0.coords t 0 := ⟨_, rfl⟩
  obtain ⟨q, hq⟩ : ∃ q : Fin 4096, q.val = 512 * (grid0.coords t 1).val + r.val := ⟨⟨_, by omega⟩, rfl⟩
  have hi : (win0_8.blk t).view.emb (ix3 0 r d) = (ix3 b q d : S8x4096x1024.Idx) := by blk_ext [e8]
  have h0 : ∀ e : Fin 1024, iblk m c 0 t (ix3 0 r e) = m ((c : Thread nD τ).loc main_arg0) (ix3 b q e) := by
    intro e; blk_ext! [iblk, V, e0]
  have h1 : ∀ e : Fin 256, iblk m c 1 t (ix3 0 r e) = m ((c : Thread nD τ).loc main_arg1) (ix3 b q e) := by
    intro e; blk_ext! [iblk, V, e1]
  have h2 : ∀ e : Fin 512, iblk m c 2 t (ix3 0 r e) = m ((c : Thread nD τ).loc main_arg2) (ix3 b q e) := by
    intro e; blk_ext! [iblk, V, e2]
  have h3 : ∀ e : Fin 256, iblk m c 3 t (ix3 0 r e) = m ((c : Thread nD τ).loc main_arg3) (ix3 b q e) := by
    intro e; blk_ext! [iblk, V, e3]
  have h4 : ∀ k e : Fin 1024, iblk m c 4 t (ix2 k e) = m ((c : Thread nD τ).loc main_arg4) (ix2 k e) := by
    intro k e; blk_ext [iblk, e4]
  have h5 : ∀ e : Fin 1024, iblk m c 5 t (ix2 0 e) = m ((c : Thread nD τ).loc main_arg5) (ix1 e) := by
    intro e
    have he : (win0_5.blk t).view.emb (ix2 0 e) = (ix2 0 e : S1x1024.Idx) := by blk_ext [e5]
    show V m c main_v1 ((win0_5.blk t).view.emb (ix2 0 e)) = _
    rw [he]
    entry_read
    pointwise
  have h6 : ∀ (k : Fin 1024) (f : Fin 4096), iblk m c 6 t (ix2 k f) = m ((c : Thread nD τ).loc main_arg6) (ix2 k f) := by
    intro k f; blk_ext [iblk, e6]
  have h7 : ∀ (f : Fin 4096) (e : Fin 1024), iblk m c 7 t (ix2 f e) = m ((c : Thread nD τ).loc main_arg7) (ix2 f e) := by
    intro f e; blk_ext [iblk, e7]
  rw [hi]
  simp only [h0, h1, h2, h3, h4, h5, h6, h7]
  rfl

end Cert.Proof.MlpArray

end
-- ==== Proof.MlpRef.lean ====
/-
  WHAT THE REFERENCE COMPUTES: its composed term, read at a position, is the row of `MlpRow.lean` of its arguments.
-/
module

public import proofs.«01_k».proof.Proof.Gen.Reference3Ideal.Run
public import proofs.«01_k».proof.Proof.MlpRow
public import Idealize.ShloMosaic.Lib.Pointwise

@[expose] public section

noncomputable section

namespace Cert.Proof.MlpRef

open Idealize.ShloMosaic Idealize.ShloMosaic.TcCoe Cert.Reference3Ideal Cert.Reference3Ideal.Gen Cert.Proof
open scoped BigOperators

/-- The residual stream after the out-projection, as the reference writes it. -/
def stream (x : FVec Ideal S8x4096x1024 .f32) (sb : FVec Ideal S8x4096x256 .bf16) (ret : FVec Ideal S8x4096x512 .bf16)
    (conv : FVec Ideal S8x4096x256 .bf16) (wo : FVec Ideal S1024x1024 .f32) : FVec Ideal S8x4096x1024 .f32 :=
  addf x (Host.dotGeneral dot_S8x4096x1024_S1024x1024_S8x4096x1024_2_0_01_1_n_n none
    (concatenate S8x4096x1024 2 [⟨S8x4096x256, (extf .f32 sb bitsLt_bf16_f32 : FVec Ideal S8x4096x256 .f32)⟩,
      ⟨S8x4096x512, (extf .f32 ret bitsLt_bf16_f32 : FVec Ideal S8x4096x512 .f32)⟩,
      ⟨S8x4096x256, (extf .f32 conv bitsLt_bf16_f32 : FVec Ideal S8x4096x256 .f32)⟩]
      concatenates_S8x4096x256_S8x4096x512_S8x4096x256_S8x4096x1024_d2 : FVec Ideal S8x4096x1024 .f32)
    wo)

/-- The norm of the stream, as the reference writes it. -/
def norm (s : FVec Ideal S8x4096x1024 .f32) (g : FVec Ideal S1024 .f32) : FVec Ideal S8x4096x1024 .f32 :=
  mulf (mulf s (broadcastInDim S8x4096x1024 ![0, 1, 2] bcast_S8x4096x1_S8x4096x1024_0_1_2
      (Host.rsqrt (addf (Host.divf (broadcastInDim S8x4096x1 ![0, 1] bcast_S8x4096_S8x4096x1_0_1
        (Host.reduceAdd (mulf s s) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 g))

/-- The hidden units before the square, as the reference writes them. -/
def relu (h : FVec Ideal S8x4096x1024 .f32) (w1 : FVec Ideal S1024x4096 .f32) : FVec Ideal S8x4096x4096 .f32 :=
  maximumf (Host.dotGeneral dot_S8x4096x1024_S1024x4096_S8x4096x4096_2_0_01_1_n_n none h w1)
    (broadcastInDim S8x4096x4096 ![] bcast_S_S8x4096x4096 (constant S_ .f32 0x00000000#32))

/-- The whole result, as the reference writes it. -/
def out (s h : FVec Ideal S8x4096x1024 .f32) (w1 : FVec Ideal S1024x4096 .f32) (w2 : FVec Ideal S4096x1024 .f32) :
    FVec Ideal S8x4096x1024 .f32 :=
  addf s (Host.dotGeneral dot_S8x4096x4096_S4096x1024_S8x4096x1024_2_0_01_1_n_n none (mulf (relu h w1) (relu h w1))
    w2)

theorem stream_apply (x : FVec Ideal S8x4096x1024 .f32) (sb : FVec Ideal S8x4096x256 .bf16) (ret : FVec Ideal S8x4096x512 .bf16)
    (conv : FVec Ideal S8x4096x256 .bf16) (wo : FVec Ideal S1024x1024 .f32) (b : Fin 8) (t : Fin 4096) (d : Fin 1024) :
    stream x sb ret conv wo (ix3 b t d)
      = MlpRow.stream (fun e => x (ix3 b t e)) (MlpRow.mix (fun k => sb (ix3 b t k)) (fun k => ret (ix3 b t k)) (fun k => conv (ix3 b t k)))
          (fun k e => wo (ix2 k e)) d := by
  pointwise [stream, dot_S8x4096x1024_S1024x1024_S8x4096x1024_2_0_01_1_n_n]
  rfl

theorem norm_apply (s : FVec Ideal S8x4096x1024 .f32) (g : FVec Ideal S1024 .f32) (b : Fin 8) (t : Fin 4096) (d : Fin 1024) :
    norm s g (ix3 b t d) = MlpRow.norm (fun e => s (ix3 b t e)) (fun e => g (ix1 e)) d := by
  pointwise [norm]
  rfl

theorem relu_apply (h : FVec Ideal S8x4096x1024 .f32) (w1 : FVec Ideal S1024x4096 .f32) (b : Fin 8) (t f : Fin 4096) :
    relu h w1 (ix3 b t f) = max (∑ k : Fin 1024, h (ix3 b t k) * w1 (ix2 k f)) 0 := by
  pointwise [relu, dot_S8x4096x1024_S1024x4096_S8x4096x4096_2_0_01_1_n_n]

theorem out_apply (s h : FVec Ideal S8x4096x1024 .f32) (w1 : FVec Ideal S1024x4096 .f32) (w2 : FVec Ideal S4096x1024 .f32)
    (b : Fin 8) (t : Fin 4096) (d : Fin 1024) :
    out s h w1 w2 (ix3 b t d)
      = MlpRow.out (fun e => s (ix3 b t e)) (fun e => h (ix3 b t e)) (fun k f => w1 (ix2 k f)) (fun f e => w2 (ix2 f e)) d := by
  pointwise [out, relu_apply, dot_S8x4096x4096_S4096x1024_S8x4096x1024_2_0_01_1_n_n]
  rfl

/-- The reference's result at a position is the row. -/
theorem res_apply (m : (ℓ : Loc nD τ sig) → Buf (Elt Ideal) ℓ) (c : Dev nD) (b : Fin 8) (t : Fin 4096) (d : Fin 1024) :
    Value.res_out0 m c (ix3 b t d)
      = MlpRow.out (MlpRow.stream (fun e => m ((c : Thread nD τ).loc main_arg0) (ix3 b t e))
            (MlpRow.mix (fun k => m ((c : Thread nD τ).loc main_arg1) (ix3 b t k)) (fun k => m ((c : Thread nD τ).loc main_arg2) (ix3 b t k))
              (fun k => m ((c : Thread nD τ).loc main_arg3) (ix3 b t k))) (fun k e => m ((c : Thread nD τ).loc main_arg4) (ix2 k e)))
          (MlpRow.norm (MlpRow.stream (fun e => m ((c : Thread nD τ).loc main_arg0) (ix3 b t e))
            (MlpRow.mix (fun k => m ((c : Thread nD τ).loc main_arg1) (ix3 b t k)) (fun k => m ((c : Thread nD τ).loc main_arg2) (ix3 b t k))
              (fun k => m ((c : Thread nD τ).loc main_arg3) (ix3 b t k))) (fun k e => m ((c : Thread nD τ).loc main_arg4) (ix2 k e)))
            (fun e => m ((c : Thread nD τ).loc main_arg5) (ix1 e)))
          (fun k f => m ((c : Thread nD τ).loc main_arg6) (ix2 k f)) (fun f e => m ((c : Thread nD τ).loc main_arg7) (ix2 f e)) d := by
  have hs : ∀ e : Fin 1024, _ = _ := fun e => stream_apply (m ((c : Thread nD τ).loc main_arg0)) (m ((c : Thread nD τ).loc main_arg1))
    (m ((c : Thread nD τ).loc main_arg2)) (m ((c : Thread nD τ).loc main_arg3)) (m ((c : Thread nD τ).loc main_arg4)) b t e
  refine (out_apply (stream (m ((c : Thread nD τ).loc main_arg0)) (m ((c : Thread nD τ).loc main_arg1))
    (m ((c : Thread nD τ).loc main_arg2)) (m ((c : Thread nD τ).loc main_arg3)) (m ((c : Thread nD τ).loc main_arg4)))
    (norm (stream (m ((c : Thread nD τ).loc main_arg0)) (m ((c : Thread nD τ).loc main_arg1))
      (m ((c : Thread nD τ).loc main_arg2)) (m ((c : Thread nD τ).loc main_arg3)) (m ((c : Thread nD τ).loc main_arg4)))
      (m ((c : Thread nD τ).loc main_arg5))) (m ((c : Thread nD τ).loc main_arg6)) (m ((c : Thread nD τ).loc main_arg7)) b t d).trans ?_
  simp only [norm_apply, hs]

end Cert.Proof.MlpRef

end
-- ==== Proof.MlpValue.lean ====
/-
  THE CLOSING HALF'S VALUE CLAIM: the array the kernel leaves (`MlpArray.lean`) is the reference's result (`MlpRef.lean`),
  both the row of `MlpRow.lean`.
-/
module

public import proofs.«01_k».proof.Defs
public import proofs.«01_k».proof.Proof.MlpArray
public import proofs.«01_k».proof.Proof.MlpRef
public import Idealize.ShloMosaic.Adequacy
public import Idealize.ShloMosaic.Init

@[expose] public section

noncomputable section

namespace Cert.Proof.MlpValue

open Idealize.ShloMosaic Idealize.SL.Sem Cert.Proof

/-- The reference's result, from the arguments the two launches share, is the array the kernel leaves. -/
theorem res_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) :
    Cert.Reference3Ideal.Value.res_out0 m' c = (Cert.Kernel3Ideal.Gen.dats m 0 c).arrAt 8 Cert.Kernel3Ideal.cfg0.N := by
  obtain ⟨h0, h1, h2, h3, h4, h5, h6, h7⟩ := h
  rw [MlpArray.final m c]
  funext i
  obtain ⟨b, t, d, rfl⟩ : ∃ (b : Fin 8) (t : Fin 4096) (d : Fin 1024), i = ix3 b t d := ⟨i 0, i 1, i 2, eq_ix3 i⟩
  refine (MlpRef.res_apply m' c b t d).trans ?_
  rw [h0, h1, h2, h3, h4, h5, h6, h7]
  rfl

theorem algebraic : Cert.algebraic_Kernel3Ideal_Reference3Ideal := fun m g m' g' _ h =>
  ⟨fun c => (Cert.Kernel3Ideal.Gen.dats m 0 c).arrAt 8 Cert.Kernel3Ideal.cfg0.N,
    Cert.Kernel3Ideal.Value.run_blocks m g,
    (θ_run Cert.Reference3Ideal.defs _ _).mono (fun _ hr c => ⟨(hr c).1.trans (res_eq m m' c (h c)), (hr c).2⟩)
      (Cert.Reference3Ideal.Value.run m' g')⟩

end Cert.Proof.MlpValue

end
-- ==== Proof.ConvRow.lean ====
/-
  ONE POSITION OF THE CONVOLUTION BRANCH, on plain functions: the 31 taps of a channel, the layer norm over the channels and
  the swish. Both programs are read down to these.
-/
module

public import Idealize.ShloMosaic.PureOps.Ideal
public import Idealize.ShloMosaic.Lib.Pointwise.Sums

@[expose] public section

noncomputable section

namespace Cert.Proof.ConvRow

open Idealize.ShloMosaic
open scoped BigOperators

/-- Adding up the first `n` of a sequence, from `z`. -/
def acc (z : EReal) (f : ℕ → EReal) : ℕ → EReal
  | 0 => z
  | n + 1 => acc z f n + f n

/-- Where the adding starts may be added last. -/
theorem acc_start (z : EReal) (f : ℕ → EReal) (n : ℕ) : acc z f n = acc 0 f n + z := by
  induction n with
  | zero => exact (zero_add z).symm
  | succ n ih => show acc z f n + f n = acc 0 f n + f n + z; rw [ih, add_right_comm]

theorem acc_congr (z : EReal) (f g : ℕ → EReal) (n : ℕ) (h : ∀ k < n, f k = g k) : acc z f n = acc z g n := by
  induction n with
  | zero => rfl
  | succ n ih => show acc z f n + f n = acc z g n + g n; rw [ih fun k hk => h k (Nat.lt_succ_of_lt hk), h n (Nat.lt_succ_self n)]

/-- What tap `k` meets at position `t`: the channel `30 - k` positions earlier, nothing before the first. -/
def earlier (h : Fin 4096 → EReal) (t k : ℕ) : EReal :=
  if hk : 30 ≤ t + k ∧ t + k - 30 < 4096 then h ⟨t + k - 30, hk.2⟩ else 0

/-- A channel's convolution at position `t`: the bias and the 31 taps. -/
def taps (h : Fin 4096 → EReal) (w : Fin 31 → EReal) (b : EReal) (t : ℕ) : EReal :=
  acc b (fun k => earlier h t k * w ⟨k % 31, Nat.mod_lt _ (by decide)⟩) 31

/-- The channels of a position less their mean. -/
def centred (a : Fin 256 → EReal) (c : Fin 256) : EReal := a c - Ideal.div (∑ x, a x) (Ideal.ofBits .f32 0x43800000#32)

/-- Centred channels over their spread, with gain and shift. -/
def normed (x g s : Fin 256 → EReal) (c : Fin 256) : EReal :=
  x c * Ideal.rsqrt (Ideal.div (∑ j, x j * x j) (Ideal.ofBits .f32 0x43800000#32) + Ideal.ofBits .f32 0x358637BD#32) * g c + s c

/-- The layer norm and the swish of a position's channels. -/
def out (a g s : Fin 256 → EReal) (c : Fin 256) : EReal := normed (centred a) g s c * Ideal.logistic (normed (centred a) g s c)

end Cert.Proof.ConvRow

end
-- ==== Proof.ConvBlock.lean ====
/-
  WHAT ONE RUN OF 64 POSITIONS COMPUTES in the convolution's body: the bias and 31 shifted loads times their taps, normed and
  gated, read at an index.
-/
module

public import proofs.«01_k».proof.Proof.Gen.Kernel4Ideal.Skeleton
public import proofs.«01_k».proof.Proof.ConvRow
public import Idealize.ShloMosaic.Lib.Pointwise

@[expose] public section

noncomputable section

namespace Cert.Proof.ConvBlock

open Idealize.ShloMosaic Cert.Kernel4Ideal Cert.Kernel4Ideal.Gen Cert.Proof
open scoped BigOperators

/-- 64 rows of the scratch, from row `s`. -/
def rowsAt (P : Vec Ideal S544x256 .f32) (s : ℕ) : Vec Ideal S64x256 .f32 := fun i =>
  P (ix2 ⟨(s + (i 0).val) % 544, Nat.mod_lt _ (by decide)⟩ (i 1))

/-- One row of the taps. -/
def rowAt (W : Vec Ideal S31x256 .f32) (k : ℕ) : Vec Ideal S1x256 .f32 := fun i => W (ix2 ⟨k % 31, Nat.mod_lt _ (by decide)⟩ (i 1))

/-- The bias and the first `n` taps. -/
def tapped (P : Vec Ideal S544x256 .f32) (W : Vec Ideal S31x256 .f32) (b : Vec Ideal S1x256 .f32) (s : ℕ) : ℕ → FVec Ideal S64x256 .f32
  | 0 => addf (broadcast S64x256 (Scalar.ofBits (F := Ideal) .f32 0x00000000#32)) (broadcastTo S64x256 (shapeCast S1x256 b shapeCasts_S1x256_S1x256) broadcasts_S1x256_S64x256)
  | n + 1 => addf (tapped P W b s n) (mulf (rowsAt P (s + n)) (broadcastTo S64x256 (rowAt W n) broadcasts_S1x256_S64x256))

/-- Rows less their means. -/
def centred (a : FVec Ideal S64x256 .f32) : FVec Ideal S64x256 .f32 :=
  subf a (broadcastTo S64x256 (divf (shapeCast S64x1 (multiReduction .add [1] S64 a 0x00000000#32 reduces_S64x256_S64 (.inl rfl) rfl) shapeCasts_S64_S64x1)
    (broadcast S64x1 (Scalar.ofBits .f32 0x43800000#32))) broadcasts_S64x1_S64x256)

/-- The norm of centred rows. -/
def normed (x : FVec Ideal S64x256 .f32) (g s : Vec Ideal S1x256 .f32) : FVec Ideal S64x256 .f32 :=
  addf (mulf (mulf x (broadcastTo S64x256 (rsqrt (addf (divf (shapeCast S64x1 (multiReduction .add [1] S64 (mulf x x) 0x00000000#32 reduces_S64x256_S64 (.inl rfl) rfl) shapeCasts_S64_S64x1)
      (broadcast S64x1 (Scalar.ofBits .f32 0x43800000#32))) (broadcast S64x1 (Scalar.ofBits .f32 0x358637BD#32)))) broadcasts_S64x1_S64x256))
    (broadcastTo S64x256 (shapeCast S1x256 g shapeCasts_S1x256_S1x256) broadcasts_S1x256_S64x256))
    (broadcastTo S64x256 (shapeCast S1x256 s shapeCasts_S1x256_S1x256) broadcasts_S1x256_S64x256)

/-- What is stored of a run of 64 positions. -/
def closing (a : FVec Ideal S64x256 .f32) (g s : Vec Ideal S1x256 .f32) : FVec Ideal S1x64x256 .bf16 :=
  shapeCast S1x64x256 (truncf .bf16 (mulf (normed (centred a) g s) (logistic (normed (centred a) g s))) bitsLt_bf16_f32) shapeCasts_S64x256_S1x64x256

theorem tapped_apply (P : Vec Ideal S544x256 .f32) (W : Vec Ideal S31x256 .f32) (b : Vec Ideal S1x256 .f32) (s n : ℕ) (r : Fin 64) (c : Fin 256) :
    tapped P W b s n (ix2 r c)
      = ConvRow.acc (b (ix2 0 c)) (fun k => P (ix2 ⟨(s + k + r.val) % 544, Nat.mod_lt _ (by decide)⟩ c) * W (ix2 ⟨k % 31, Nat.mod_lt _ (by decide)⟩ c)) n := by
  induction n with
  | zero =>
    show tapped P W b s 0 (ix2 r c) = b (ix2 0 c)
    pointwise [tapped]
  | succ n ih =>
    have : tapped P W b s (n + 1) (ix2 r c) = tapped P W b s n (ix2 r c)
        + P (ix2 ⟨(s + n + r.val) % 544, Nat.mod_lt _ (by decide)⟩ c) * W (ix2 ⟨n % 31, Nat.mod_lt _ (by decide)⟩ c) := by
      pointwise [tapped, rowsAt, rowAt]
    rw [this, ih]
    rfl

theorem centred_apply (a : FVec Ideal S64x256 .f32) (r : Fin 64) (c : Fin 256) :
    centred a (ix2 r c) = ConvRow.centred (fun x => a (ix2 r x)) c := by
  pointwise [centred]
  rfl

theorem normed_apply (x : FVec Ideal S64x256 .f32) (g s : Vec Ideal S1x256 .f32) (r : Fin 64) (c : Fin 256) :
    normed x g s (ix2 r c) = ConvRow.normed (fun j => x (ix2 r j)) (fun j => g (ix2 0 j)) (fun j => s (ix2 0 j)) c := by
  pointwise [normed]
  rfl

theorem closing_apply (a : FVec Ideal S64x256 .f32) (g s : Vec Ideal S1x256 .f32) (r : Fin 64) (c : Fin 256) :
    closing a g s (ix3 0 r c) = ConvRow.out (fun x => a (ix2 r x)) (fun j => g (ix2 0 j)) (fun j => s (ix2 0 j)) c := by
  have h1 : closing a g s (ix3 0 r c) = normed (centred a) g s (ix2 r c) * Ideal.logistic (normed (centred a) g s (ix2 r c)) := by
    pointwise [closing]
  rw [h1, normed_apply]
  have hc : (fun j => centred a (ix2 r j)) = ConvRow.centred (fun x => a (ix2 r x)) := funext fun j => centred_apply a r j
  rw [hc]
  rfl

end Cert.Proof.ConvBlock

end
-- ==== Proof.ConvPoint.lean ====
/-
  WHAT A GRID POINT OF THE CONVOLUTION READS AND STORES. Its scratch is 32 rows kept from the point before (zeros at a batch
  member's first point) and the 512 rows of its own block; it stores eight runs of 64 positions, and leaves the last 32 rows
  for the next point.
-/
module

public import proofs.«01_k».proof.Proof.ConvBlock
public import proofs.«01_k».proof.Proof.Gen.Kernel4Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.ConvPoint

open Idealize.ShloMosaic Idealize.ShloMosaic.TcCoe Cert.Kernel4Ideal Cert.Kernel4Ideal.Gen Cert.Proof
open Cert.Proof.ConvBlock (rowsAt rowAt)
open scoped BigOperators

/-- A store over earlier stores, read at a place it covers. -/
theorem canon_hit {S : Shape} {t : EltTy} (r : Rect S) (w : r.shape.Idx → Elt Ideal t) (L : List (View.Piece (Elt Ideal) S t))
    (x : r.shape.Idx) (y : S.Idx) (h : r.emb x = y) : View.canon (⟨r, w⟩ :: L) y = w x := by
  subst h; exact View.canon_cons_emb r w L x

/-- The newest run of 64 positions, read at one of them. -/
theorem out_hit (B : Vec Ideal S1x64x256 .bf16) (L : List (View.Piece (Elt Ideal) S1x512x256 .bf16)) (s : ℕ)
    (inb : ∀ a, (![0, s, 0] : Fin 3 → Nat) a + (![1, 64, 256] : Fin 3 → Nat) a ≤ S1x512x256.size a)
    (p : Fin 512) (r : Fin 64) (d : Fin 256) (hp : p.val = s + r.val) :
    View.canon (⟨Rect.unit ![0, s, 0] ![1, 64, 256] inb, B⟩ :: L) (ix3 0 p d) = B (ix3 0 r d) := by
  refine canon_hit (S := S1x512x256) (t := .bf16) (Rect.unit ![0, s, 0] ![1, 64, 256] inb) B L (ix3 0 r d : S1x64x256.Idx) _ ?_
  refine funext fun a => Fin.ext ((ValueKit.rect_emb_unit_val _ _ _ _ a).trans ?_)
  fin_cases a <;> simp [ix3, hp]

/-- The newest run, read elsewhere. -/
theorem out_miss (B : Vec Ideal S1x64x256 .bf16) (L : List (View.Piece (Elt Ideal) S1x512x256 .bf16)) (s : ℕ)
    (inb : ∀ a, (![0, s, 0] : Fin 3 → Nat) a + (![1, 64, 256] : Fin 3 → Nat) a ≤ S1x512x256.size a)
    (p : Fin 512) (d : Fin 256) (hp : p.val < s) :
    View.canon (⟨Rect.unit ![0, s, 0] ![1, 64, 256] inb, B⟩ :: L) (ix3 0 p d) = View.canon L (ix3 0 p d) := by
  refine View.canon_cons_of_not_mem _ L fun h => ?_
  have := ((Rect.mem_set_unit (s := S1x512x256) (inb := inb)).1 h 1).1
  simp [ix3] at this
  omega

/-- The eight stores of a point's output block, read at a row. -/
theorem out_eight (B0 B1 B2 B3 B4 B5 B6 B7 : Vec Ideal S1x64x256 .bf16) (G : ℕ → Vec Ideal S1x64x256 .bf16) (i0 i1 i2 i3 i4 i5 i6 i7)
    (h0 : B0 = G 0) (h1 : B1 = G 1) (h2 : B2 = G 2) (h3 : B3 = G 3) (h4 : B4 = G 4) (h5 : B5 = G 5) (h6 : B6 = G 6) (h7 : B7 = G 7)
    (p : Fin 512) (d : Fin 256) :
    View.canon (Val := Elt Ideal) (s := S1x512x256) (e := .bf16)
      [⟨Rect.unit ![0, 448, 0] ![1, 64, 256] i7, B7⟩, ⟨Rect.unit ![0, 384, 0] ![1, 64, 256] i6, B6⟩, ⟨Rect.unit ![0, 320, 0] ![1, 64, 256] i5, B5⟩,
       ⟨Rect.unit ![0, 256, 0] ![1, 64, 256] i4, B4⟩, ⟨Rect.unit ![0, 192, 0] ![1, 64, 256] i3, B3⟩, ⟨Rect.unit ![0, 128, 0] ![1, 64, 256] i2, B2⟩,
       ⟨Rect.unit ![0, 64, 0] ![1, 64, 256] i1, B1⟩, ⟨Rect.unit ![0, 0, 0] ![1, 64, 256] i0, B0⟩] (ix3 0 p d)
      = G (p.val / 64) (ix3 0 ⟨p.val % 64, Nat.mod_lt _ (by decide)⟩ d) := by
  subst h0 h1 h2 h3 h4 h5 h6 h7
  have hp := p.isLt
  have hm : p.val = 64 * (p.val / 64) + p.val % 64 := (Nat.div_add_mod _ _).symm
  have hq : p.val / 64 < 8 := by omega
  generalize p.val / 64 = q at hm hq ⊢
  interval_cases q
  · rw [out_miss _ _ 448 _ _ _ (by omega), out_miss _ _ 384 _ _ _ (by omega), out_miss _ _ 320 _ _ _ (by omega), out_miss _ _ 256 _ _ _ (by omega),
      out_miss _ _ 192 _ _ _ (by omega), out_miss _ _ 128 _ _ _ (by omega), out_miss _ _ 64 _ _ _ (by omega)]
    exact out_hit _ _ 0 _ _ _ _ (by omega)
  · rw [out_miss _ _ 448 _ _ _ (by omega), out_miss _ _ 384 _ _ _ (by omega), out_miss _ _ 320 _ _ _ (by omega), out_miss _ _ 256 _ _ _ (by omega),
      out_miss _ _ 192 _ _ _ (by omega), out_miss _ _ 128 _ _ _ (by omega)]
    exact out_hit _ _ 64 _ _ _ _ (by omega)
  · rw [out_miss _ _ 448 _ _ _ (by omega), out_miss _ _ 384 _ _ _ (by omega), out_miss _ _ 320 _ _ _ (by omega), out_miss _ _ 256 _ _ _ (by omega),
      out_miss _ _ 192 _ _ _ (by omega)]
    exact out_hit _ _ 128 _ _ _ _ (by omega)
  · rw [out_miss _ _ 448 _ _ _ (by omega), out_miss _ _ 384 _ _ _ (by omega), out_miss _ _ 320 _ _ _ (by omega), out_miss _ _ 256 _ _ _ (by omega)]
    exact out_hit _ _ 192 _ _ _ _ (by omega)
  · rw [out_miss _ _ 448 _ _ _ (by omega), out_miss _ _ 384 _ _ _ (by omega), out_miss _ _ 320 _ _ _ (by omega)]
    exact out_hit _ _ 256 _ _ _ _ (by omega)
  · rw [out_miss _ _ 448 _ _ _ (by omega), out_miss _ _ 384 _ _ _ (by omega)]
    exact out_hit _ _ 320 _ _ _ _ (by omega)
  · rw [out_miss _ _ 448 _ _ _ (by omega)]
    exact out_hit _ _ 384 _ _ _ _ (by omega)
  · exact out_hit _ _ 448 _ _ _ _ (by omega)

/-- A load of one row of the taps. -/
theorem ld_row (W : Vec Ideal S31x256 .f32) (k : ℕ) (inb : ∀ a, (![k, 0] : Fin 2 → Nat) a + (![1, 256] : Fin 2 → Nat) a ≤ S31x256.size a) :
    View.ld W (Rect.unit ![k, 0] ![1, 256] inb) = rowAt W k := by
  have hk : k + 1 ≤ 31 := inb 0
  funext i
  have hi : (i 0).val = 0 := by have : (i 0).val < 1 := (i 0).isLt
                                omega
  refine congrArg W (funext fun a => Fin.ext ?_)
  fin_cases a <;> simp [Rect.unit, ix2, hi]
  exact (Nat.mod_eq_of_lt (by omega)).symm

/-- A load of 64 rows. -/
theorem ld_rows (P : Vec Ideal S544x256 .f32) (s : ℕ) (inb : ∀ a, (![s, 0] : Fin 2 → Nat) a + (![64, 256] : Fin 2 → Nat) a ≤ S544x256.size a) :
    View.ld P (Rect.unit ![s, 0] ![64, 256] inb) = rowsAt P s := by
  have hs : s + 64 ≤ 544 := inb 0
  funext i
  have hi : (i 0).val < 64 := (i 0).isLt
  refine congrArg P (funext fun a => Fin.ext ?_)
  fin_cases a <;> simp [Rect.unit, ix2]
  exact (Nat.mod_eq_of_lt (by omega)).symm

theorem ld_whole1 (X : Vec Ideal S1x256 .f32) (inb) : View.ld X (Rect.unit ![0, 0] ![1, 256] inb) = X := by
  funext i; refine congrArg X (funext fun a => Fin.ext ?_); fin_cases a <;> simp [Rect.unit]

/-- A load of 64 rows of the scratch. -/
theorem load_rows (v : View sig .tc .vmem S544x256 .f32) (L : List (View.Piece (Elt Ideal) S544x256 .f32)) (s : ℕ)
    (inb : ∀ a, (![s, 0] : Fin 2 → Nat) a + (![64, 256] : Fin 2 → Nat) a ≤ S544x256.size a) :
    v.readCov L (Rect.unit ![s, 0] ![64, 256] inb).toLoadRect = rowsAt (View.canon L) s :=
  (View.readCov_eq_canon' v L _).trans (ld_rows (View.canon L) s inb)

/-- A load of the scratch's last 32 rows. -/
theorem load_halo (v : View sig .tc .vmem S544x256 .f32) (L : List (View.Piece (Elt Ideal) S544x256 .f32))
    (inb : ∀ a, (![512, 0] : Fin 2 → Nat) a + (![32, 256] : Fin 2 → Nat) a ≤ S544x256.size a) :
    v.readCov L (Rect.unit ![512, 0] ![32, 256] inb).toLoadRect
      = ((fun j => View.canon L (ix2 ⟨512 + (j 0).val, by have h : (j 0).val < 32 := (j 0).isLt; omega⟩ (j 1))) : Vec Ideal S32x256 .f32) := by
  refine (View.readCov_eq_canon' v L _).trans (funext fun j => congrArg (View.canon L) (funext fun a => Fin.ext ?_))
  fin_cases a <;> simp [Rect.unit, ix2, LoadRect.idx]

/-- The rows of the point's block in the scratch. -/
theorem pad_block (X : Vec Ideal S1x512x256 .bf16) (L : List (View.Piece (Elt Ideal) S544x256 .f32)) (inb) (p : Fin 512) (d : Fin 256) (q : Fin 544)
    (hq : q.val = 32 + p.val) :
    View.canon (⟨Rect.unit ![32, 0] ![512, 256] inb, (k0_pay4 X : FVec Ideal S512x256 .f32)⟩ :: L) (ix2 q d) = X (ix3 0 p d) := by
  refine (canon_hit (S := S544x256) (t := .f32) (Rect.unit ![32, 0] ![512, 256] inb) (k0_pay4 X) L (ix2 p d : S512x256.Idx) _ ?_).trans ?_
  · refine funext fun a => Fin.ext ((ValueKit.rect_emb_unit_val _ _ _ _ a).trans ?_)
    fin_cases a <;> simp [ix2, hq]
  · pointwise [k0_pay4]

/-- The rows before them. -/
theorem pad_before (w : Vec Ideal S512x256 .f32) (L : List (View.Piece (Elt Ideal) S544x256 .f32)) (inb) (d : Fin 256) (q : Fin 544) (hq : q.val < 32) :
    View.canon (⟨Rect.unit ![32, 0] ![512, 256] inb, w⟩ :: L) (ix2 q d) = View.canon L (ix2 q d) := by
  refine View.canon_cons_of_not_mem _ L fun h => ?_
  have := ((Rect.mem_set_unit (s := S544x256) (inb := inb)).1 h 0).1
  simp [ix2] at this
  omega

/-- The first 32 rows, where they were stored last. -/
theorem pad_first (w : Vec Ideal S32x256 .f32) (L : List (View.Piece (Elt Ideal) S544x256 .f32)) (inb) (d : Fin 256) (p : Fin 32) (q : Fin 544) (hq : q.val = p.val) :
    View.canon (⟨Rect.unit ![0, 0] ![32, 256] inb, w⟩ :: L) (ix2 q d) = w (ix2 p d) := by
  refine canon_hit (S := S544x256) (t := .f32) (Rect.unit ![0, 0] ![32, 256] inb) w L (ix2 p d : S32x256.Idx) _ ?_
  refine funext fun a => Fin.ext ((ValueKit.rect_emb_unit_val _ _ _ _ a).trans ?_)
  fin_cases a <;> simp [ix2, hq]

variable (m : (ℓ : Loc nD τ sig) → Buf (Elt Ideal) ℓ) (c : Dev nD)

/-- After any point the scratch's first 32 rows are the last 32 of the point's block. -/
theorem halo (t : Fin cfg0.N) (p : Fin 32) (q : Fin 544) (hq : q.val = p.val) (d : Fin 256) :
    (outsAt0 m c t.val t.isLt).2 (ix2 q d) = iblk m c 0 t (ix3 0 ⟨480 + p.val, by omega⟩ d) := by
  by_cases h0 : t.val % 8 = 0
  · rw [outsAt0_A m c t h0]
    frame_out
    refine (pad_first _ _ _ d p q hq).trans ?_
    rw [show ∀ v : Vec Ideal S32x256 .f32, k0_pay2 v (ix2 p d) = v (ix2 p d) from fun v => by pointwise [k0_pay2]]
    rw [load_halo]
    exact pad_block _ _ _ ⟨480 + p.val, by omega⟩ d _ (by show 512 + p.val = 32 + (480 + p.val); omega)
  · rw [outsAt0_B m c t h0]
    frame_out
    refine (pad_first _ _ _ d p q hq).trans ?_
    rw [show ∀ v : Vec Ideal S32x256 .f32, k0_pay2 v (ix2 p d) = v (ix2 p d) from fun v => by pointwise [k0_pay2]]
    rw [load_halo]
    exact pad_block _ _ _ ⟨480 + p.val, by omega⟩ d _ (by show 512 + p.val = 32 + (480 + p.val); omega)

/-- The scratch when a point loads from it: 32 rows held from before, then the point's block. -/
def padOf (H : Vec Ideal S544x256 .f32) (X : Vec Ideal S1x512x256 .bf16) : Vec Ideal S544x256 .f32 := fun i =>
  if h : (i 0).val < 32 then H i else X (ix3 0 ⟨(i 0).val - 32, by have h' : (i 0).val < 544 := (i 0).isLt; omega⟩ (i 1))

/-- Its rows from 32 on. -/
theorem padOf_block (H : Vec Ideal S544x256 .f32) (X : Vec Ideal S1x512x256 .bf16) (q : Fin 544) (p : Fin 512) (d : Fin 256) (hq : q.val = 32 + p.val) :
    padOf H X (ix2 q d) = X (ix3 0 p d) := by
  have h : ¬ ((ix2 q d : S544x256.Idx) 0).val < 32 := by show ¬ q.val < 32; omega
  refine (dif_neg h).trans (congrArg (fun r => X (ix3 0 r d)) (Fin.ext ?_))
  show q.val - 32 = p.val
  omega

/-- Its rows before 32. -/
theorem padOf_before (H : Vec Ideal S544x256 .f32) (X : Vec Ideal S1x512x256 .bf16) (q : Fin 544) (d : Fin 256) (hq : q.val < 32) :
    padOf H X (ix2 q d) = H (ix2 q d) :=
  dif_pos (show ((ix2 q d : S544x256.Idx) 0).val < 32 from hq)

/-- Loads of the block alone. -/
theorem load_tail (H : Vec Ideal S544x256 .f32) (v : View sig .tc .vmem S544x256 .f32) (X : Vec Ideal S1x512x256 .bf16) (s : ℕ) (hs : 32 ≤ s)
    (inb0) (inb : ∀ a, (![s, 0] : Fin 2 → Nat) a + (![64, 256] : Fin 2 → Nat) a ≤ S544x256.size a) :
    v.readCov [⟨Rect.unit ![32, 0] ![512, 256] inb0, (k0_pay4 X : FVec Ideal S512x256 .f32)⟩] (Rect.unit ![s, 0] ![64, 256] inb).toLoadRect = rowsAt (padOf H X) s := by
  have hb : s + 64 ≤ 544 := inb 0
  rw [load_rows]
  funext i
  have hi : (i 0).val < 64 := (i 0).isLt
  have hm : (s + (i 0).val) % 544 = s + (i 0).val := Nat.mod_eq_of_lt (by omega)
  refine (pad_block X [] inb0 ⟨s + (i 0).val - 32, by omega⟩ (i 1) _ ?_).trans (padOf_block H X _ ⟨s + (i 0).val - 32, by omega⟩ (i 1) ?_).symm
  · show (s + (i 0).val) % 544 = 32 + (s + (i 0).val - 32); omega
  · show (s + (i 0).val) % 544 = 32 + (s + (i 0).val - 32); omega

/-- The scratch where its first rows are an earlier point's. -/
theorem kept_eq (H : Vec Ideal S544x256 .f32) (X : Vec Ideal S1x512x256 .bf16) (hw) (inb0) :
    View.read (Elt Ideal) (View.whole cc0_scratch0)
      ((View.whole cc0_scratch0).writes (Elt Ideal) (Memref.IsWhole.unread (m := Memref.whole cc0_scratch0) hw (Val := Elt Ideal) H)
        [⟨Rect.unit ![32, 0] ![512, 256] inb0, (k0_pay4 X : FVec Ideal S512x256 .f32)⟩]) = padOf H X := by
  funext i
  obtain ⟨q, d, rfl⟩ : ∃ (q : Fin 544) (d : Fin 256), i = ix2 q d := ⟨i 0, i 1, funext fun a => by fin_cases a <;> rfl⟩
  by_cases hq : q.val < 32
  · rw [padOf_before H X q d hq]
    refine (View.read_writes_cons_miss _ _ _ _ _ ?_).trans (congrFun (read_unread_whole cc0_scratch0 hw H) _)
    intro h
    have := ((Rect.mem_set_unit (s := S544x256) (inb := inb0)).1 h 0).1
    simp [ix2] at this
    omega
  · rw [padOf_block H X q ⟨q.val - 32, by omega⟩ d (by show q.val = 32 + (q.val - 32); omega)]
    refine (View.read_writes_cons_hit _ _ _ _ _ (ix2 ⟨q.val - 32, by omega⟩ d : S512x256.Idx) _ ?_).trans ?_
    · refine funext fun a => Fin.ext ((ValueKit.rect_emb_unit_val _ _ _ _ a).trans ?_)
      fin_cases a
      · show 32 + (q.val - 32) = q.val; omega
      · show 0 + d.val = d.val; omega
    · pointwise [k0_pay4]

/-- The scratch where its first rows are zeros. -/
theorem fresh_eq (X : Vec Ideal S1x512x256 .bf16) (inb0 inb1) :
    View.canon [⟨Rect.unit ![32, 0] ![512, 256] inb0, (k0_pay4 X : FVec Ideal S512x256 .f32)⟩, ⟨Rect.unit ![0, 0] ![32, 256] inb1, (k0_pay3 : FVec Ideal S32x256 .f32)⟩]
      = padOf (fun _ => 0) X := by
  funext i
  obtain ⟨q, d, rfl⟩ : ∃ (q : Fin 544) (d : Fin 256), i = ix2 q d := ⟨i 0, i 1, funext fun a => by fin_cases a <;> rfl⟩
  by_cases hq : q.val < 32
  · rw [padOf_before _ X q d hq]
    refine (pad_before _ _ inb0 d q hq).trans ((pad_first _ _ inb1 d ⟨q.val, hq⟩ q rfl).trans ?_)
    pointwise [k0_pay3]
  · rw [padOf_block _ X q ⟨q.val - 32, by omega⟩ d (by show q.val = 32 + (q.val - 32); omega)]
    exact pad_block X _ inb0 _ d q (by show q.val = 32 + (q.val - 32); omega)

/-- What a point stores, of what its scratch holds. -/
def stored (P : Vec Ideal S544x256 .f32) (t : Fin cfg0.N) (j : ℕ) : FVec Ideal S1x64x256 .bf16 :=
  ConvBlock.closing (ConvBlock.tapped P (iblk m c 1 t) (iblk m c 2 t) (2 + 64 * j) 31) (iblk m c 3 t) (iblk m c 4 t)

/-- The values that the first point of a batch member stores. -/
theorem first (t : Fin cfg0.N) (h0 : t.val % 8 = 0) (p : Fin 512) (d : Fin 256) :
    (outsAt0 m c t.val t.isLt).1 (ix3 0 p d)
      = stored m c (padOf (fun _ => 0) (iblk m c 0 t)) t (p.val / 64) (ix3 0 ⟨p.val % 64, Nat.mod_lt _ (by decide)⟩ d) := by
  rw [outsAt0_A m c t h0]
  frame_out
  refine out_eight _ _ _ _ _ _ _ _ (stored m c (padOf (fun _ => 0) (iblk m c 0 t)) t) _ _ _ _ _ _ _ _ ?_ ?_ ?_ ?_ ?_ ?_ ?_ ?_ p d
  all_goals
    simp only [ld_row, ld_whole1, load_rows, fresh_eq]
    rfl

/-- The values that any other point stores. -/
theorem later (t : Fin cfg0.N) (h0 : ¬ t.val % 8 = 0) (p : Fin 512) (d : Fin 256) :
    (outsAt0 m c t.val t.isLt).1 (ix3 0 p d)
      = stored m c (padOf (outsAt0 m c (t.val - 1) (by omega)).2 (iblk m c 0 t)) t (p.val / 64) (ix3 0 ⟨p.val % 64, Nat.mod_lt _ (by decide)⟩ d) := by
  rw [outsAt0_B m c t h0]
  frame_out
  refine out_eight _ _ _ _ _ _ _ _ (stored m c (padOf (outsAt0 m c (t.val - 1) (by omega)).2 (iblk m c 0 t)) t) _ _ _ _ _ _ _ _ ?_ ?_ ?_ ?_ ?_ ?_ ?_ ?_ p d
  · simp (disch := decide) only [ld_row, ld_whole1, load_tail (outsAt0 m c (t.val - 1) (by omega)).2, ld_rows]
    rw [kept_eq]
    rfl
  all_goals
    simp (disch := decide) only [ld_row, ld_whole1, load_tail (outsAt0 m c (t.val - 1) (by omega)).2]
    rfl

end Cert.Proof.ConvPoint

end
-- ==== Proof.ConvRef.lean ====
/-
  WHAT THE REFERENCE OF THE CONVOLUTION COMPUTES: its composed term, read at a position, is the row of `ConvRow.lean`.
-/
module

public import proofs.«01_k».proof.Proof.Gen.Reference4Ideal.Run
public import proofs.«01_k».proof.Proof.ConvRow
public import Idealize.ShloMosaic.Lib.Pointwise

@[expose] public section

noncomputable section

namespace Cert.Proof.ConvRef

open Idealize.ShloMosaic Idealize.ShloMosaic.TcCoe Idealize.ShloMosaic.StableHlo Cert.Reference4Ideal Cert.Reference4Ideal.Gen Cert.Proof
open scoped BigOperators

/-- One tap's product at every position. -/
def term (p : FVec Ideal S8x4126x256 .f32) (w : FVec Ideal S31x256 .f32) (k : ℕ) : FVec Ideal S8x4096x256 .f32 := fun i =>
  p (ix3 (i 0) ⟨(k + (i 1).val) % 4126, Nat.mod_lt _ (by decide)⟩ (i 2)) * w (ix2 ⟨k % 31, Nat.mod_lt _ (by decide)⟩ (i 2))

/-- The first `n` taps added up. -/
def summed (p : FVec Ideal S8x4126x256 .f32) (w : FVec Ideal S31x256 .f32) : ℕ → FVec Ideal S8x4096x256 .f32
  | 0 => broadcastInDim S8x4096x256 ![] bcast_S_S8x4096x256 (constant S_ .f32 0x00000000#32)
  | n + 1 => addf (summed p w n) (term p w n)

/-- One tap's product, as the reference writes it. -/
def tap (p : FVec Ideal S8x4126x256 .f32) (w : FVec Ideal S31x256 .f32) (k : ℕ)
    (hs : S8x4126x256.Slices ![0, k, 0] S8x4096x256) (hw : S31x256.Slices ![k, 0] S1x256) : FVec Ideal S8x4096x256 .f32 :=
  mulf (extractStridedSlice S8x4096x256 ![0, k, 0] p hs) (broadcastInDim S8x4096x256 ![0, 1, 2] bcast_S1x1x256_S8x4096x256_0_1_2
    (broadcastInDim S1x1x256 ![2] bcast_S256_S1x1x256_2 (shapeCast _ (extractStridedSlice S1x256 ![k, 0] w hw) shapeCasts_S1x256_S256)))

theorem term_eq (p : FVec Ideal S8x4126x256 .f32) (w : FVec Ideal S31x256 .f32) (k : ℕ)
    (hs : S8x4126x256.Slices ![0, k, 0] S8x4096x256) (hw : S31x256.Slices ![k, 0] S1x256) :
    tap p w k hs hw = term p w k := by
  have h1 : k + 4096 ≤ 4126 := hs.2 1
  have h2 : k + 1 ≤ 31 := hw.2 0
  funext i
  obtain ⟨b, t, c, rfl⟩ : ∃ (b : Fin 8) (t : Fin 4096) (c : Fin 256), i = ix3 b t c := ⟨i 0, i 1, i 2, eq_ix3 i⟩
  pointwise [tap]
  unfold term
  refine congrArg₂ (· * ·) (congrArg p (funext fun a => Fin.ext ?_)) (congrArg w (funext fun a => Fin.ext ?_))
  · fin_cases a <;> simp [ix3]
    omega
  · fin_cases a <;> simp [ix2]
    omega

theorem summed_apply (p : FVec Ideal S8x4126x256 .f32) (w : FVec Ideal S31x256 .f32) (n : ℕ) (i : S8x4096x256.Idx) :
    summed p w n i = ConvRow.acc 0 (fun k => term p w k i) n := by
  induction n with
  | zero =>
    obtain ⟨b, t, c, rfl⟩ : ∃ (b : Fin 8) (t : Fin 4096) (c : Fin 256), i = ix3 b t c := ⟨i 0, i 1, i 2, eq_ix3 i⟩
    show summed p w 0 (ix3 b t c) = (0 : EReal)
    pointwise [summed]
  | succ n ih => show summed p w n i + term p w n i = _; rw [ih]; rfl

/-- The reference's padded array. -/
def padded (h : FVec Ideal S8x4096x256 .bf16) : FVec Ideal S8x4126x256 .f32 :=
  pad S8x4126x256 ![0, 30, 0] ![0, 0, 0] ![0, 0, 0] (extf .f32 h bitsLt_bf16_f32) (sitofp .f32 (constantI S_ 32 0#32))
    pads_S8x4096x256_S8x4126x256_000_3000_000 h_S_

theorem padded_apply (h : FVec Ideal S8x4096x256 .bf16) (b : Fin 8) (t : Fin 4096) (k : ℕ) (hk : k < 31) (c : Fin 256) :
    padded h (ix3 b ⟨(k + t.val) % 4126, Nat.mod_lt _ (by decide)⟩ c) = ConvRow.earlier (fun s => h (ix3 b s c)) t.val k := by
  have ht := t.isLt
  have hm : (k + t.val) % 4126 = k + t.val := Nat.mod_eq_of_lt (by omega)
  unfold ConvRow.earlier
  split
  · next hc =>
    refine (dif_pos ?_).trans ?_
    · intro a
      fin_cases a <;> simp [ix3, hm] <;> first | omega | exact Nat.mod_one _
    · refine congrArg h (funext fun a => Fin.ext ?_)
      fin_cases a <;> simp [ix3, hm, Shape.Idx.norm]
      omega
  · next hc =>
    refine (dif_neg ?_).trans ?_
    · intro hall
      have := (hall 1).1
      simp [ix3, hm] at this
      omega
    · show (((0#32 : BitVec 32).toInt : ℝ) : EReal) = 0
      simp

/-- The bias and the taps, as the reference writes them. -/
def conv (h : FVec Ideal S8x4096x256 .bf16) (w : FVec Ideal S31x256 .f32) (b : FVec Ideal S256 .f32) : FVec Ideal S8x4096x256 .f32 :=
  addf (summed (padded h) w 31) (broadcastInDim S8x4096x256 ![0, 1, 2] bcast_S1x1x256_S8x4096x256_0_1_2 (broadcastInDim S1x1x256 ![2] bcast_S256_S1x1x256_2 b))

theorem conv_apply (h : FVec Ideal S8x4096x256 .bf16) (w : FVec Ideal S31x256 .f32) (b : FVec Ideal S256 .f32) (n : Fin 8) (t : Fin 4096) (c : Fin 256) :
    conv h w b (ix3 n t c) = ConvRow.taps (fun s => h (ix3 n s c)) (fun k => w (ix2 k c)) (b (ix1 c)) t.val := by
  have h1 : conv h w b (ix3 n t c) = summed (padded h) w 31 (ix3 n t c) + b (ix1 c) := by pointwise [conv]
  rw [h1, summed_apply, ConvRow.taps, ConvRow.acc_start (b (ix1 c))]
  refine congrArg₂ (· + ·) (ConvRow.acc_congr _ _ _ _ fun k hk => ?_) rfl
  exact congrArg₂ (· * ·) (padded_apply h n t k hk c) rfl

/-- The channels less their mean. -/
def centred (a : FVec Ideal S8x4096x256 .f32) : FVec Ideal S8x4096x256 .f32 :=
  subf a (broadcastInDim S8x4096x256 ![0, 1, 2] bcast_S8x4096x1_S8x4096x256_0_1_2 (Host.divf (broadcastInDim S8x4096x1 ![0, 1] bcast_S8x4096_S8x4096x1_0_1
    (Host.reduceAdd a (constant S_ .f32 0x00000000#32) reducesTo_S8x4096x256_S8x4096_d2 h_S_)) (broadcastInDim S8x4096x1 ![] bcast_S_S8x4096x1 (constant S_ .f32 0x43800000#32))))

/-- The norm of centred channels. -/
def normed (x : FVec Ideal S8x4096x256 .f32) (g s : FVec Ideal S256 .f32) : FVec Ideal S8x4096x256 .f32 :=
  addf (mulf (mulf x (broadcastInDim S8x4096x256 ![0, 1, 2] bcast_S8x4096x1_S8x4096x256_0_1_2 (Host.rsqrt (addf (Host.divf (broadcastInDim S8x4096x1 ![0, 1] bcast_S8x4096_S8x4096x1_0_1
      (Host.reduceAdd (mulf x x) (constant S_ .f32 0x00000000#32) reducesTo_S8x4096x256_S8x4096_d2 h_S_)) (broadcastInDim S8x4096x1 ![] bcast_S_S8x4096x1 (constant S_ .f32 0x43800000#32)))
      (broadcastInDim S8x4096x1 ![] bcast_S_S8x4096x1 (constant S_ .f32 0x358637BD#32))))))
    (broadcastInDim S8x4096x256 ![0, 1, 2] bcast_S1x1x256_S8x4096x256_0_1_2 (broadcastInDim S1x1x256 ![2] bcast_S256_S1x1x256_2 g)))
    (broadcastInDim S8x4096x256 ![0, 1, 2] bcast_S1x1x256_S8x4096x256_0_1_2 (broadcastInDim S1x1x256 ![2] bcast_S256_S1x1x256_2 s))

/-- The swish. -/
def swish (y : FVec Ideal S8x4096x256 .f32) : FVec Ideal S8x4096x256 .bf16 :=
  truncf .bf16 (mulf y (Host.divf (broadcastInDim S8x4096x256 ![] bcast_S_S8x4096x256 (constant S_ .f32 0x3F800000#32))
    (addf (broadcastInDim S8x4096x256 ![] bcast_S_S8x4096x256 (constant S_ .f32 0x3F800000#32)) (Host.exp (Host.negf y))))) bitsLt_bf16_f32

theorem centred_apply (a : FVec Ideal S8x4096x256 .f32) (n : Fin 8) (t : Fin 4096) (c : Fin 256) :
    centred a (ix3 n t c) = ConvRow.centred (fun x => a (ix3 n t x)) c := by
  pointwise [centred]
  rfl

theorem normed_apply (x : FVec Ideal S8x4096x256 .f32) (g s : FVec Ideal S256 .f32) (n : Fin 8) (t : Fin 4096) (c : Fin 256) :
    normed x g s (ix3 n t c) = ConvRow.normed (fun j => x (ix3 n t j)) (fun j => g (ix1 j)) (fun j => s (ix1 j)) c := by
  pointwise [normed]
  rfl

theorem swish_apply (y : FVec Ideal S8x4096x256 .f32) (n : Fin 8) (t : Fin 4096) (c : Fin 256) :
    swish y (ix3 n t c) = y (ix3 n t c) * Ideal.logistic (y (ix3 n t c)) := by
  pointwise [swish]
  rfl

/-- The reference's result, as it writes it. -/
def result (h : FVec Ideal S8x4096x256 .bf16) (w : FVec Ideal S31x256 .f32) (b g s : FVec Ideal S256 .f32) : FVec Ideal S8x4096x256 .bf16 :=
  swish (normed (centred (conv h w b)) g s)

theorem result_apply (h : FVec Ideal S8x4096x256 .bf16) (w : FVec Ideal S31x256 .f32) (b g s : FVec Ideal S256 .f32) (n : Fin 8) (t : Fin 4096) (c : Fin 256) :
    result h w b g s (ix3 n t c)
      = ConvRow.out (fun x => ConvRow.taps (fun p => h (ix3 n p x)) (fun k => w (ix2 k x)) (b (ix1 x)) t.val) (fun j => g (ix1 j)) (fun j => s (ix1 j)) c := by
  unfold result ConvRow.out
  rw [swish_apply, normed_apply]
  have hc : (fun j => centred (conv h w b) (ix3 n t j))
      = ConvRow.centred (fun x => ConvRow.taps (fun p => h (ix3 n p x)) (fun k => w (ix2 k x)) (b (ix1 x)) t.val) := by
    funext j
    rw [centred_apply]
    exact congrArg (ConvRow.centred · j) (funext fun x => conv_apply h w b n t x)
  rw [hc]

/-- The 31 taps, as the reference adds them. -/
def chain (p : FVec Ideal S8x4126x256 .f32) (w : FVec Ideal S31x256 .f32) : FVec Ideal S8x4096x256 .f32 :=
  addf (addf (addf (addf (addf (addf (addf (addf (addf (addf (addf (addf (addf (addf (addf (addf (addf (addf (addf (addf (addf (addf (addf (addf (addf (addf (addf (addf (addf (addf (addf (broadcastInDim S8x4096x256 ![] bcast_S_S8x4096x256 (constant S_ .f32 0x00000000#32))
    (tap p w 0 slices_S8x4126x256_S8x4096x256_0_0_0 slices_S31x256_S1x256_0_0))
    (tap p w 1 slices_S8x4126x256_S8x4096x256_0_1_0 slices_S31x256_S1x256_1_0))
    (tap p w 2 slices_S8x4126x256_S8x4096x256_0_2_0 slices_S31x256_S1x256_2_0))
    (tap p w 3 slices_S8x4126x256_S8x4096x256_0_3_0 slices_S31x256_S1x256_3_0))
    (tap p w 4 slices_S8x4126x256_S8x4096x256_0_4_0 slices_S31x256_S1x256_4_0))
    (tap p w 5 slices_S8x4126x256_S8x4096x256_0_5_0 slices_S31x256_S1x256_5_0))
    (tap p w 6 slices_S8x4126x256_S8x4096x256_0_6_0 slices_S31x256_S1x256_6_0))
    (tap p w 7 slices_S8x4126x256_S8x4096x256_0_7_0 slices_S31x256_S1x256_7_0))
    (tap p w 8 slices_S8x4126x256_S8x4096x256_0_8_0 slices_S31x256_S1x256_8_0))
    (tap p w 9 slices_S8x4126x256_S8x4096x256_0_9_0 slices_S31x256_S1x256_9_0))
    (tap p w 10 slices_S8x4126x256_S8x4096x256_0_10_0 slices_S31x256_S1x256_10_0))
    (tap p w 11 slices_S8x4126x256_S8x4096x256_0_11_0 slices_S31x256_S1x256_11_0))
    (tap p w 12 slices_S8x4126x256_S8x4096x256_0_12_0 slices_S31x256_S1x256_12_0))
    (tap p w 13 slices_S8x4126x256_S8x4096x256_0_13_0 slices_S31x256_S1x256_13_0))
    (tap p w 14 slices_S8x4126x256_S8x4096x256_0_14_0 slices_S31x256_S1x256_14_0))
    (tap p w 15 slices_S8x4126x256_S8x4096x256_0_15_0 slices_S31x256_S1x256_15_0))
    (tap p w 16 slices_S8x4126x256_S8x4096x256_0_16_0 slices_S31x256_S1x256_16_0))
    (tap p w 17 slices_S8x4126x256_S8x4096x256_0_17_0 slices_S31x256_S1x256_17_0))
    (tap p w 18 slices_S8x4126x256_S8x4096x256_0_18_0 slices_S31x256_S1x256_18_0))
    (tap p w 19 slices_S8x4126x256_S8x4096x256_0_19_0 slices_S31x256_S1x256_19_0))
    (tap p w 20 slices_S8x4126x256_S8x4096x256_0_20_0 slices_S31x256_S1x256_20_0))
    (tap p w 21 slices_S8x4126x256_S8x4096x256_0_21_0 slices_S31x256_S1x256_21_0))
    (tap p w 22 slices_S8x4126x256_S8x4096x256_0_22_0 slices_S31x256_S1x256_22_0))
    (tap p w 23 slices_S8x4126x256_S8x4096x256_0_23_0 slices_S31x256_S1x256_23_0))
    (tap p w 24 slices_S8x4126x256_S8x4096x256_0_24_0 slices_S31x256_S1x256_24_0))
    (tap p w 25 slices_S8x4126x256_S8x4096x256_0_25_0 slices_S31x256_S1x256_25_0))
    (tap p w 26 slices_S8x4126x256_S8x4096x256_0_26_0 slices_S31x256_S1x256_26_0))
    (tap p w 27 slices_S8x4126x256_S8x4096x256_0_27_0 slices_S31x256_S1x256_27_0))
    (tap p w 28 slices_S8x4126x256_S8x4096x256_0_28_0 slices_S31x256_S1x256_28_0))
    (tap p w 29 slices_S8x4126x256_S8x4096x256_0_29_0 slices_S31x256_S1x256_29_0))
    (tap p w 30 slices_S8x4126x256_S8x4096x256_0_30_0 slices_S31x256_S1x256_30_0)

theorem chain_eq (p : FVec Ideal S8x4126x256 .f32) (w : FVec Ideal S31x256 .f32) : chain p w = summed p w 31 := by
  unfold chain
  simp only [term_eq]
  rfl

/-- The taps of the composed term, from the first to the last. -/
theorem taps_eq (V : Valuation τ sig (Elt Ideal)) :
    Value.res_main_v222 V
      = conv (V (Proc.devRef .tc main_arg0)) (V (Proc.devRef .tc main_arg1)) (V (Proc.devRef .tc main_arg2)) := by
  refine Eq.trans ?_ (congrArg (addf · _) (chain_eq (padded (V (Proc.devRef .tc main_arg0))) (V (Proc.devRef .tc main_arg1))))
  rfl

theorem res_eq (V : Valuation τ sig (Elt Ideal)) :
    truncf .bf16 (mulf (Value.res_main_v244 V) (Host.divf (broadcastInDim S8x4096x256 ![] bcast_S_S8x4096x256 (constant S_ .f32 0x3F800000#32))
      (addf (broadcastInDim S8x4096x256 ![] bcast_S_S8x4096x256 (constant S_ .f32 0x3F800000#32)) (Host.exp (Host.negf (Value.res_main_v244 V)))))) bitsLt_bf16_f32
      = result (V (Proc.devRef .tc main_arg0)) (V (Proc.devRef .tc main_arg1)) (V (Proc.devRef .tc main_arg2))
          (V (Proc.devRef .tc main_arg3)) (V (Proc.devRef .tc main_arg4)) := by
  unfold Value.res_main_v244 Value.res_main_v228
  rw [taps_eq]
  rfl

end Cert.Proof.ConvRef

end
-- ==== Proof.ConvValue.lean ====
/-
  THE VALUE CLAIM of the convolution: the kernel's result array is the reference's.
-/
module

public import proofs.«01_k».proof.Defs
public import proofs.«01_k».proof.Proof.ConvPoint
public import proofs.«01_k».proof.Proof.ConvRef
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.StableHlo.ReadAt

@[expose] public section

noncomputable section

namespace Cert.Proof.ConvValue

open Idealize.ShloMosaic Idealize.ShloMosaic.TcCoe Idealize.SL.Sem Cert.Kernel4Ideal Cert.Kernel4Ideal.Gen Cert.Proof
open Cert.Proof.ConvPoint (padOf padOf_block padOf_before)

variable (m : (ℓ : Loc nD τ sig) → Buf (Elt Ideal) ℓ) (c : Dev nD)

/-- Where each window stands: the channels and the result at (batch member, tile), the parameters whole. -/
theorem idx : ∀ t : Fin cfg0.N,
    win0_0.index t = ![t.val / 8, t.val % 8, 0] ∧ win0_1.index t = ![0, 0] ∧ win0_2.index t = ![0, 0] ∧ win0_3.index t = ![0, 0]
    ∧ win0_4.index t = ![0, 0] ∧ win0_5.index t = ![t.val / 8, t.val % 8, 0] := by decide +kernel

/-- The batch member of a point. -/
abbrev bat (t : Fin cfg0.N) : Fin 8 := ⟨t.val / 8, by have h : t.val < 64 := t.isLt; omega⟩

/-- The position of row `p` of a point's tile. -/
abbrev posn (t : Fin cfg0.N) (p : Fin 512) : Fin 4096 := ⟨512 * (t.val % 8) + p.val, by omega⟩

/-- One channel of a batch member, by position. -/
abbrev chan (b : Fin 8) (d : Fin 256) : Fin 4096 → EReal := fun x => m ((c : Thread nD τ).loc main_arg0) (ix3 b x d)

theorem row2 (d : Fin 256) : (V m c main_v0 (ix2 0 d) : EReal) = m ((c : Thread nD τ).loc main_arg2) (ix1 d) := by
  unfold V
  after_reads_at
theorem row3 (d : Fin 256) : (V m c main_v1 (ix2 0 d) : EReal) = m ((c : Thread nD τ).loc main_arg3) (ix1 d) := by
  unfold V
  after_reads_at
theorem row4 (d : Fin 256) : (V m c main_v2 (ix2 0 d) : EReal) = m ((c : Thread nD τ).loc main_arg4) (ix1 d) := by
  unfold V
  after_reads_at

theorem blk0 (t : Fin cfg0.N) (p : Fin 512) (d : Fin 256) : iblk m c 0 t (ix3 0 p d) = chan m c (bat t) d (posn t p) := by
  obtain ⟨e0, e1, e2, e3, e4, e5⟩ := idx t
  blk_ext! [iblk, V, e0]
theorem blk1 (t : Fin cfg0.N) (k : Fin 31) (d : Fin 256) : iblk m c 1 t (ix2 k d) = m ((c : Thread nD τ).loc main_arg1) (ix2 k d) := by
  obtain ⟨e0, e1, e2, e3, e4, e5⟩ := idx t
  blk_ext! [iblk, V, e1]
theorem blk2 (t : Fin cfg0.N) (d : Fin 256) : (iblk m c 2 t (ix2 0 d) : EReal) = m ((c : Thread nD τ).loc main_arg2) (ix1 d) := by
  obtain ⟨e0, e1, e2, e3, e4, e5⟩ := idx t
  have he : (win0_2.blk t).view.emb (ix2 0 d) = (ix2 0 d : S1x256.Idx) := by blk_ext [e2]
  exact (congrArg (V m c main_v0) he).trans (row2 m c d)
theorem blk3 (t : Fin cfg0.N) (d : Fin 256) : (iblk m c 3 t (ix2 0 d) : EReal) = m ((c : Thread nD τ).loc main_arg3) (ix1 d) := by
  obtain ⟨e0, e1, e2, e3, e4, e5⟩ := idx t
  have he : (win0_3.blk t).view.emb (ix2 0 d) = (ix2 0 d : S1x256.Idx) := by blk_ext [e3]
  exact (congrArg (V m c main_v1) he).trans (row3 m c d)
theorem blk4 (t : Fin cfg0.N) (d : Fin 256) : (iblk m c 4 t (ix2 0 d) : EReal) = m ((c : Thread nD τ).loc main_arg4) (ix1 d) := by
  obtain ⟨e0, e1, e2, e3, e4, e5⟩ := idx t
  have he : (win0_4.blk t).view.emb (ix2 0 d) = (ix2 0 d : S1x256.Idx) := by blk_ext [e4]
  exact (congrArg (V m c main_v2) he).trans (row4 m c d)

/-- A tap's channel is read at a place: the position less 30, plus the tap. -/
theorem earlier_at (h : Fin 4096 → EReal) (t k : ℕ) (x : Fin 4096) (hx : t + k = x.val + 30) : ConvRow.earlier h t k = h x := by
  have hk : 30 ≤ t + k ∧ t + k - 30 < 4096 := by omega
  refine (dif_pos hk).trans (congrArg h (Fin.ext ?_))
  show t + k - 30 = x.val
  omega

/-- Before the first position there is nothing. -/
theorem earlier_none (h : Fin 4096 → EReal) (t k : ℕ) (hx : t + k < 30) : ConvRow.earlier h t k = 0 :=
  dif_neg fun hk => by omega

/-- Row `2 + p + k` of a point's scratch is what tap `k` meets at position `p` of its tile, if the 32 rows before the tile hold what
    stands before it. -/
theorem padded (H : Vec Ideal S544x256 .f32) (t : Fin cfg0.N)
    (hH : ∀ (q : Fin 544) (d : Fin 256), 2 ≤ q.val → q.val < 32 → H (ix2 q d) = ConvRow.earlier (chan m c (bat t) d) (512 * (t.val % 8)) (q.val - 2))
    (p : Fin 512) (k : ℕ) (hk : k < 31) (d : Fin 256) (q : Fin 544) (hq : q.val = 2 + p.val + k) :
    padOf H (iblk m c 0 t) (ix2 q d) = ConvRow.earlier (chan m c (bat t) d) (512 * (t.val % 8) + p.val) k := by
  by_cases h32 : q.val < 32
  · rw [padOf_before H _ q d h32, hH q d (by omega) h32]
    unfold ConvRow.earlier
    have e : 512 * (t.val % 8) + (q.val - 2) = 512 * (t.val % 8) + p.val + k := by omega
    simp only [e]
  · rw [padOf_block H _ q ⟨q.val - 32, by omega⟩ d (by show q.val = 32 + (q.val - 32); omega), blk0]
    refine (earlier_at _ _ _ _ ?_).symm
    show 512 * (t.val % 8) + p.val + k = 512 * (t.val % 8) + (q.val - 32) + 30
    omega

/-- What a point stores, if the 32 rows before its tile hold what stands before it. -/
theorem stored_eq (H : Vec Ideal S544x256 .f32) (t : Fin cfg0.N)
    (hH : ∀ (q : Fin 544) (d : Fin 256), 2 ≤ q.val → q.val < 32 → H (ix2 q d) = ConvRow.earlier (chan m c (bat t) d) (512 * (t.val % 8)) (q.val - 2))
    (p : Fin 512) (d : Fin 256) :
    ConvPoint.stored m c (padOf H (iblk m c 0 t)) t (p.val / 64) (ix3 0 ⟨p.val % 64, Nat.mod_lt _ (by decide)⟩ d)
      = ConvRef.result (m ((c : Thread nD τ).loc main_arg0)) (m ((c : Thread nD τ).loc main_arg1)) (m ((c : Thread nD τ).loc main_arg2))
          (m ((c : Thread nD τ).loc main_arg3)) (m ((c : Thread nD τ).loc main_arg4)) (ix3 (bat t) (posn t p) d) := by
  have hp := p.isLt
  rw [ConvRef.result_apply]
  unfold ConvPoint.stored
  rw [ConvBlock.closing_apply]
  have ha : (fun x => ConvBlock.tapped (padOf H (iblk m c 0 t)) (iblk m c 1 t) (iblk m c 2 t) (2 + 64 * (p.val / 64)) 31 (ix2 ⟨p.val % 64, Nat.mod_lt _ (by decide)⟩ x))
      = fun x => ConvRow.taps (chan m c (bat t) x) (fun k => m ((c : Thread nD τ).loc main_arg1) (ix2 k x)) (m ((c : Thread nD τ).loc main_arg2) (ix1 x)) (posn t p).val := by
    funext x
    rw [ConvBlock.tapped_apply, blk2]
    refine ConvRow.acc_congr _ _ _ _ fun k hk => ?_
    rw [blk1, padded m c H t hH p k hk x _ (by show (2 + 64 * (p.val / 64) + k + p.val % 64) % 544 = 2 + p.val + k; omega)]
  rw [ha]
  exact congrArg₂ (fun g s => ConvRow.out _ g s d) (funext fun j => blk3 m c t j) (funext fun j => blk4 m c t j)

/-- The block a point stores. -/
theorem at_point (t : Fin cfg0.N) (p : Fin 512) (d : Fin 256) :
    (outsAt0 m c t.val t.isLt).1 (ix3 0 p d)
      = ConvRef.result (m ((c : Thread nD τ).loc main_arg0)) (m ((c : Thread nD τ).loc main_arg1)) (m ((c : Thread nD τ).loc main_arg2))
          (m ((c : Thread nD τ).loc main_arg3)) (m ((c : Thread nD τ).loc main_arg4)) (ix3 (bat t) (posn t p) d) := by
  by_cases h0 : t.val % 8 = 0
  · refine (ConvPoint.first m c t h0 p d).trans (stored_eq m c _ t (fun q x h2 hq => ?_) p d)
    exact (earlier_none _ _ _ (by omega)).symm
  · refine (ConvPoint.later m c t h0 p d).trans (stored_eq m c _ t (fun q x h2 hq => ?_) p d)
    have ht : t.val < 64 := t.isLt
    refine (ConvPoint.halo m c ⟨t.val - 1, by show t.val - 1 < 64; omega⟩ ⟨q.val, hq⟩ q rfl x).trans ?_
    rw [blk0]
    have hb : bat ⟨t.val - 1, by show t.val - 1 < 64; omega⟩ = bat t := Fin.ext (by show (t.val - 1) / 8 = t.val / 8; omega)
    rw [hb]
    refine (earlier_at _ _ _ _ ?_).symm
    show 512 * (t.val % 8) + (q.val - 2) = 512 * ((t.val - 1) % 8) + (480 + q.val) + 30
    omega

/-- The kernel's result array. -/
theorem final :
    (dats m 0 c).arrAt 5 cfg0.N
      = ConvRef.result (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  obtain ⟨e0, e1, e2, e3, e4, e5⟩ := idx t
  blk_simp
  rw [after0_5]
  obtain ⟨z, p, d, rfl⟩ : ∃ (z : Fin 1) (p : Fin 512) (d : Fin 256), y = ix3 z p d := ⟨y 0, y 1, y 2, (eq_ix3 y)⟩
  obtain rfl : z = 0 := Subsingleton.elim _ _
  refine (at_point m c t p d).trans (congrArg _ ?_).symm
  blk_ext [e5]

theorem algebraic : Cert.algebraic_Kernel4Ideal_Reference4Ideal := fun m g m' g' _ h =>
  ⟨fun c => (dats m 0 c).arrAt 5 cfg0.N, Cert.Kernel4Ideal.Value.run_blocks m g,
    (θ_run Cert.Reference4Ideal.defs _ _).mono (fun _ hr c => by
      obtain ⟨h0, h1, h2, h3, h4⟩ := h c
      refine ⟨((hr c).1.trans (ConvRef.res_eq _)).trans ?_, (hr c).2⟩
      refine Eq.trans ?_ (final m c).symm
      rw [← h0, ← h1, ← h2, ← h3, ← h4])
      (Cert.Reference4Ideal.Value.run m' g')⟩

end Cert.Proof.ConvValue

end
-- ==== Proof.lean ====
/-
  The certificate of four calls of the layer: the retention (`Ret*.lean`), the projection into the mixers' inputs
  (`Proj*.lean`), the output projection with the feed-forward (`Mlp*.lean`) and the causal convolution (`Conv*.lean`). Of each, the kernel's run, its idealized
  twin's and the reference's end with every semaphore at rest (the frames), the idealized kernel is the kernel (nothing was
  rewritten), and over the extended reals kernel and reference leave the same arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite_qkv
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.RetValue
public import proofs.«01_k».proof.Proof.ProjValue
public import proofs.«01_k».proof.Proof.MlpValue
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.ConvValue

@[expose] public section

noncomputable section

/-! The statement's order: the frames of the four calls, then of each that nothing was rewritten and its value claim. -/

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite_qkv.Gen.facts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono (fun r hr => ⟨fun c => (hr c).2, sem_eq_zero_of_no_sems (by decide) r.2⟩)
      (Cert.ReferenceIdeal.Value.run m ρ),
    fun m ρ _ => (θ_run Cert.ReferenceIdeal.defs _ _).mono (fun r hr => ⟨fun c => (hr c).2, sem_eq_zero_of_no_sems (by decide) r.2⟩)
      (Cert.ReferenceIdeal.Value.run m ρ),
    fun m ρ _ => Cert.Kernel2.Gen.frame m ρ,
    fun m ρ _ => Cert.Kernel2Ideal.Gen.frame m ρ,
    fun m ρ _ => (θ_run Cert.Reference2Ideal.defs _ _).mono (fun r hr => ⟨fun c => (hr c).2.2.2.2.2.2.2.2, sem_eq_zero_of_no_sems (by decide) r.2⟩)
      (Cert.Reference2Ideal.Value.run m ρ),
    fun m ρ _ => Cert.Kernel3.Gen.frame m ρ,
    fun m ρ _ => Cert.Kernel3Ideal.Gen.frame m ρ,
    fun m ρ _ => (θ_run Cert.Reference3Ideal.defs _ _).mono (fun r hr => ⟨fun c => (hr c).2, sem_eq_zero_of_no_sems (by decide) r.2⟩)
      (Cert.Reference3Ideal.Value.run m ρ),
    fun m ρ _ => Cert.Kernel4.Gen.frame m ρ,
    fun m ρ _ => Cert.Kernel4Ideal.Gen.frame m ρ,
    fun m ρ _ => (θ_run Cert.Reference4Ideal.defs _ _).mono (fun r hr => ⟨fun c => (hr c).2, sem_eq_zero_of_no_sems (by decide) r.2⟩)
      (Cert.Reference4Ideal.Value.run m ρ),
    trivial,
    RetValue.algebraic,
    trivial,
    ProjValue.algebraic,
    trivial,
    MlpValue.algebraic,
    trivial,
    ConvValue.algebraic⟩

end Cert.Proof

end
